-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![3072, 1536]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1536, 1]⟩ ⟨2, ![3072, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S12x128 : Shape := ⟨2, ![12, 128]⟩
abbrev S16x128 : Shape := ⟨2, ![16, 128]⟩
abbrev S6 : Shape := ⟨1, ![6]⟩
abbrev S2 : Shape := ⟨1, ![2]⟩
abbrev S_ : Shape := ⟨0, ![]⟩
abbrev S1 : Shape := ⟨1, ![1]⟩
abbrev S256x768 : Shape := ⟨2, ![256, 768]⟩
abbrev S256 : Shape := ⟨1, ![256]⟩
abbrev S2x128 : Shape := ⟨2, ![2, 128]⟩
abbrev S6x128 : Shape := ⟨2, ![6, 128]⟩
abbrev S1536x1 : Shape := ⟨2, ![1536, 1]⟩

abbrev nBuf : Space → Nat
  | .hbm => 3
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S12x128, .f32⟩
  | .hbm, ⟨2, _⟩ => ⟨S1536x1, .f32⟩
  | .local _ .vmem, ⟨0, _⟩ => ⟨S12x128, .f32⟩
  | .local _ .vmem, ⟨1, _⟩ => ⟨S1536x768, .f32⟩
  | .local _ .vmem, ⟨2, _⟩ => ⟨S16x128, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_56 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_55 : BitVec 32 := 2#32
  let v60 : BitVec 32 := Scalar.muli v2 c2_i32_55
  let v61 : BitVec 32 := Scalar.addi c0_i32_56 v60
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_57 : BitVec 32 := 1#32
  let v62 : BitVec 32 := Scalar.muli v6 c1_i32_57
  let v63 : BitVec 32 := Scalar.addi v61 v62
  v63.toNat
def k0_dev3 (d0 : Dev nD) : Nat :=
  let c0_i32_89 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_88 : BitVec 32 := 2#32
  let v94 : BitVec 32 := Scalar.muli v2 c2_i32_88
  let v95 : BitVec 32 := Scalar.addi c0_i32_89 v94
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_90 : BitVec 32 := 1#32
  let v96 : BitVec 32 := Scalar.muli v6 c1_i32_90
  let v97 : BitVec 32 := Scalar.addi v95 v96
  v97.toNat
abbrev stage0_0 : Fin 1 → Memref sig .tc .vmem S12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S3072x1536 : Shape := ⟨2, ![3072, 1536]⟩
abbrev S_ : Shape := ⟨0, ![]⟩
abbrev S3072 : Shape := ⟨1, ![3072]⟩
abbrev S3072x1 : Shape := ⟨2, ![3072, 1]⟩

abbrev nBuf : Space → Nat
  | .hbm => 4
  | .vmem => 0
  | .smem => 0
  | _ => 0

abbrev bufTy : (tb : Table) → Fin (tcTables nBuf tb) → BufTy
  | .hbm, ⟨0, _⟩ => ⟨S3072x1536, .f32⟩
  | .hbm, ⟨1, _⟩ => ⟨S_, .f32⟩
  | .hbm, ⟨2, _⟩ => ⟨S3072, .f32⟩
  | .hbm, ⟨3, _⟩ => ⟨S3072x1, .f32⟩
  | _, _ => ⟨S3072x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Pieces.lean ====
/- The buffers of one device cut the way the kernel cuts them: six blocks of 256 rows of the input and of its
   VMEM copy, six blocks of two rows and two halves of six rows of the staged result, two halves of six rows of the
   landing buffer. For each cut: which rows a piece holds, that the pieces are disjoint, and that they cover. -/
module

public import proofs.«01_k».proof.Proof.Gen.KernelIdeal.Launch
public import Idealize.ShloMosaic.Lib.Pipeline.Kit
public import Idealize.ShloMosaic.Lib.Rounds
public import Idealize.ShloMosaic.Lib.Tactic

@[expose] public section

noncomputable section

namespace Cert.RowMax

open Idealize.ShloMosaic Idealize.ShloMosaic.TcCoe
open Cert.KernelIdeal Cert.KernelIdeal.Gen

/-! ## Blocks of rows of an array with two dimensions -/

/-- Rows `[T k, T k + T)` lie inside an array of `R` rows when there are `n` such blocks and `n T ≤ R`. -/
theorem rows_inb {R C T n : ℕ} (k : Fin n) (h : n * T ≤ R) :
    ∀ a : Fin 2, (![T * k.val, 0] : Fin 2 → ℕ) a + (![T, C] : Fin 2 → ℕ) a ≤ (⟨2, ![R, C]⟩ : Shape).size a := by
  refine Fin.forall_fin_two.mpr ⟨?_, ?_⟩
  · show T * k.val + T ≤ R
    have hk : (k.val + 1) * T ≤ n * T := Nat.mul_le_mul_right _ k.isLt
    rw [Nat.add_mul, Nat.one_mul, Nat.mul_comm k.val T] at hk
    omega
  · show 0 + C ≤ C
    omega

/-- Block `k` of `T` whole rows. -/
abbrev rows (R C T n : ℕ) (h : n * T ≤ R) (k : Fin n) : Rect ⟨2, ![R, C]⟩ :=
  Rect.unit (s := ⟨2, ![R, C]⟩) ![T * k.val, 0] ![T, C] (rows_inb k h)

/-- An element lies in block `k` when its row does. -/
theorem mem_rows {R C T n : ℕ} {h : n * T ≤ R} {k : Fin n} {i : (⟨2, ![R, C]⟩ : Shape).Idx} :
    i ∈ (rows R C T n h k).set ↔ T * k.val ≤ (i 0).val ∧ (i 0).val < T * k.val + T := by
  rw [Rect.mem_set_unit, Fin.forall_fin_two]
  constructor
  · rintro ⟨h0, -⟩; exact h0
  · intro h0
    refine ⟨h0, ⟨Nat.zero_le _, ?_⟩⟩
    have := (i 1).isLt
    show (i 1).val < 0 + C
    have h1 : (i 1).val < C := this
    omega

/-- Two different blocks share no element. -/
theorem rows_disjoint {R C T n : ℕ} (h : n * T ≤ R) {k k' : Fin n} (hk : k ≠ k') :
    Disjoint (rows R C T n h k).set (rows R C T n h k').set := by
  refine Finset.disjoint_left.mpr fun i hi hi' => ?_
  rw [mem_rows] at hi hi'
  rcases Nat.lt_or_gt_of_ne (fun e => hk (Fin.ext e)) with hlt | hlt
  · have : T * (k.val + 1) ≤ T * k'.val := Nat.mul_le_mul_left _ hlt
    rw [Nat.mul_add] at this; omega
  · have : T * (k'.val + 1) ≤ T * k.val := Nat.mul_le_mul_left _ hlt
    rw [Nat.mul_add] at this; omega

/-- When the `n` blocks are all the rows, every element lies in one. -/
theorem rows_cover {R C T n : ℕ} (h : n * T = R) :
    (Finset.univ : Finset (Fin n)).biUnion (fun k => (rows R C T n h.le k).set) = Finset.univ := by
  refine Finset.eq_univ_of_forall fun i => ?_
  rw [Finset.mem_biUnion]
  have hi : (i 0).val < R := (i 0).isLt
  have hT : 0 < T := Nat.pos_of_ne_zero fun e => by subst e; omega
  refine ⟨⟨(i 0).val / T, ?_⟩, Finset.mem_univ _, ?_⟩
  · exact Nat.div_lt_of_lt_mul (by rw [Nat.mul_comm, h]; exact hi)
  · rw [mem_rows]
    have h1 := Nat.div_add_mod (i 0).val T
    have h2 := Nat.mod_lt (i 0).val hT
    constructor <;> dsimp only <;> omega

/-! ## The four cuts -/

/-- Block `k` of the device's input and of its VMEM copy: rows `[256 k, 256 k + 256)`. -/
abbrev inR (k : Fin 6) : Rect S1536x768 := rows 1536 768 256 6 (by decide) k
/-- Block `k` of the staged result: rows `2 k` and `2 k + 1`, one maximum per input row of block `k`. -/
abbrev outR (k : Fin 6) : Rect S12x128 := rows 12 128 2 6 (by decide) k
/-- Half `h` of the staged result: rows `[6 h, 6 h + 6)`, what one transfer reads. -/
abbrev halfR (h : Fin 2) : Rect S12x128 := rows 12 128 6 2 (by decide) h
/-- Half `h` of the landing buffer: the same rows of sixteen, what one transfer writes. -/
abbrev landR (h : Fin 2) : Rect S16x128 := rows 16 128 6 2 (by decide) h

/-- The input, the VMEM copy, the staged result and the landing buffer, whole. -/
abbrev inM : Memref sig .tc .hbm S1536x768 .f32 := Memref.whole main_arg0
/-- The VMEM copy, -/
abbrev scrM : Memref sig .tc .vmem S1536x768 .f32 := Memref.whole cc0_scratch0
/-- the staged result, -/
abbrev outM : Memref sig .tc .vmem S12x128 .f32 := Memref.whole cc0_stg0_0
/-- and the landing buffer. -/
abbrev landM : Memref sig .tc .vmem S16x128 .f32 := Memref.whole cc0_scratch1

/-- A block of the input, -/
abbrev inP (k : Fin 6) : Memref sig .tc .hbm S256x768 .f32 := inM.slice (inR k) (fun _ => rfl)
/-- A block of the VMEM copy, -/
abbrev scrP (k : Fin 6) : Memref sig .tc .vmem S256x768 .f32 := scrM.slice (inR k) (fun _ => rfl)
/-- a half of the staged result, -/
abbrev halfP (h : Fin 2) : Memref sig .tc .vmem S6x128 .f32 := outM.slice (halfR h) (fun _ => rfl)
/-- and a half of the landing buffer, as a copy names them. -/
abbrev landP (h : Fin 2) : Memref sig .tc .vmem S6x128 .f32 := landM.slice (landR h) (fun _ => rfl)

/-- The elements of a block of the input are the rectangle's. -/
theorem inP_set (k : Fin 6) : (inP k).view.set = (inR k).set := View.set_slice_whole _ _
/-- The elements of a block of the VMEM copy are the rectangle's. -/
theorem scrP_set (k : Fin 6) : (scrP k).view.set = (inR k).set := View.set_slice_whole _ _
/-- The elements of a block of the staged result are the rectangle's. -/
theorem outA_set (k : Fin 6) : (outM.access (outR k)).set = (outR k).set := View.set_slice_whole _ _
/-- The elements of a half of the staged result are the rectangle's. -/
theorem halfP_set (h : Fin 2) : (halfP h).view.set = (halfR h).set := View.set_slice_whole _ _
/-- The elements of a half of the landing buffer are the rectangle's. -/
theorem landP_set (h : Fin 2) : (landP h).view.set = (landR h).set := View.set_slice_whole _ _

/-- A half of the staged result is its three blocks. -/
theorem half_blocks (h : Fin 2) :
    (Finset.univ.filter fun k : Fin 6 => k.val / 3 = h.val).biUnion (fun k => (outR k).set) = (halfR h).set := by
  ext i
  rw [Finset.mem_biUnion, mem_rows]
  constructor
  · rintro ⟨k, hk, hi⟩
    rw [mem_rows] at hi
    have := (Finset.mem_filter.mp hk).2
    omega
  · intro hi
    have hlt := h.isLt
    refine ⟨⟨(i 0).val / 2, by omega⟩, Finset.mem_filter.mpr ⟨Finset.mem_univ _, ?_⟩, ?_⟩
    · show (i 0).val / 2 / 3 = h.val
      omega
    · rw [mem_rows]; dsimp only; omega

/-- The first twelve rows of the landing buffer are its two halves. -/
theorem land_first {i : S16x128.Idx} :
    i ∈ (Finset.univ : Finset (Fin 2)).biUnion (fun h => (landR h).set) ↔ (i 0).val < 12 := by
  rw [Finset.mem_biUnion]
  constructor
  · rintro ⟨h, -, hi⟩
    rw [mem_rows] at hi
    have := h.isLt
    omega
  · intro hi
    refine ⟨⟨(i 0).val / 6, by omega⟩, Finset.mem_univ _, ?_⟩
    rw [mem_rows]; dsimp only; omega

/-! ## Reading and writing through a piece -/

section Contents

variable {F : FTy → Type}

/-- Where block `k` puts its element `j`: `T k` rows further down. -/
theorem rows_emb {R C T n : ℕ} (h : n * T ≤ R) (k : Fin n) (j : (⟨2, ![T, C]⟩ : Shape).Idx) :
    (((rows R C T n h k).emb j) 0).val = T * k.val + (j 0).val ∧ (((rows R C T n h k).emb j) 1).val = (j 1).val := by
  constructor <;> simp [Rect.emb_apply]

/-- An element of block `k` is what the block puts there. -/
theorem rows_exists {R C T n : ℕ} (h : n * T ≤ R) (k : Fin n) {i : (⟨2, ![R, C]⟩ : Shape).Idx}
    (hi : i ∈ (rows R C T n h k).set) : ∃ j, (rows R C T n h k).emb j = i := by
  rw [← Rect.map_emb_univ, Finset.mem_map] at hi
  obtain ⟨j, -, hj⟩ := hi
  exact ⟨j, hj⟩

/-- What writing a whole piece leaves on it is what was written. -/
theorem write_piece (b : Ref sig .tc) (r : Rect b.ty.shape) (f : b.ty.Contents (Elt F)) (w : r.shape.Idx → Elt F b.ty.elt) (j : r.shape.Idx) :
    ((View.whole b).slice r).write (Elt F) f w Finset.univ (r.emb j) = w j :=
  View.write_emb_of_mem (v := (View.whole b).slice r) (Val := Elt F) f w (M := Finset.univ) (Finset.mem_univ j)

/-- What reading a piece gives at `j` is the buffer where the piece puts `j`. -/
theorem read_piece (b : Ref sig .tc) (r : Rect b.ty.shape) (f : b.ty.Contents (Elt F)) (j : r.shape.Idx) :
    ((View.whole b).slice r).read (Elt F) f j = f (r.emb j) := rfl

end Contents

end Cert.RowMax

end
-- ==== Proof.Protocol.lean ====
/- The kernel's protocol on one device and its partner along the mesh's second axis: which semaphores it uses, what
   each one hands over when it is waited for, and what each device owes. Every semaphore is used once, so every one
   has one round of one duty. -/
module

public import proofs.«01_k».proof.Proof.Pieces
public import proofs.«01_k».proof.Proof.Gen.KernelIdeal.Skeleton
public import Idealize.ShloMosaic.Lib.Pipeline.Regions
public import Idealize.ShloMosaic.Lib.Pipeline.RegionTalk
public import Idealize.ShloMosaic.Lib.StableHlo
public import Idealize.ShloMosaic.PureOps

@[expose] public section

noncomputable section

namespace Cert.RowMax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The partner -/

/-- The device at the same place on the first axis and the other place on the second. -/
def pr (c : Dev nD) : Dev nD := ⟨2 * (c.val / 2) + 1 - c.val % 2, by have : c.val < 4 := c.isLt; show _ < 4; omega⟩

/-- The partner's partner is the device itself. -/
theorem pr_pr (c : Dev nD) : pr (pr c) = c := by revert c; decide
/-- Every device exchanged with its partner. -/
def swap : Dev nD ≃ Dev nD := ⟨pr, pr, pr_pr, pr_pr⟩

/-- The first device the kernel computes is the partner. -/
theorem dev1_eq (c : Dev nD) : (⟨k0_dev1 c, k0_dev1_lt c⟩ : Dev nD) = pr c := Fin.ext (k0_dev1_eq c)
/-- So is the second, -/
theorem dev2_eq (c : Dev nD) : (⟨k0_dev2 c, k0_dev2_lt c⟩ : Dev nD) = pr c := Fin.ext (k0_dev2_eq c)
/-- and the third. -/
theorem dev3_eq (c : Dev nD) : (⟨k0_dev3 c, k0_dev3_lt c⟩ : Dev nD) = pr c := Fin.ext (k0_dev3_eq c)

/-! ## What the arrays hold -/

/-- Block `k` of an input. -/
def block (x : S1536x768.Idx → Elt F .f32) (k : Fin 6) : S256x768.Idx → Elt F .f32 := fun j => x ((inR k).emb j)

/-- The maxima of the 256 rows of a block, laid out as two rows of 128. -/
def rowMax (v : S256x768.Idx → Elt F .f32) : S2x128.Idx → Elt F .f32 := k0_pay2 v

/-- The place of row `i 0` of the staged result within its block of two rows. -/
def inBlock (i : S12x128.Idx) : S2x128.Idx := fun
  | ⟨0, _⟩ => ⟨(i 0).val % 2, Nat.mod_lt _ (by decide)⟩
  | ⟨1, _⟩ => i 1

/-- The maxima of all 1536 rows of an input, laid out as twelve rows of 128: block `k`'s in rows `2 k`, `2 k + 1`. -/
def part (x : S1536x768.Idx → Elt F .f32) : S12x128.Idx → Elt F .f32 := fun i =>
  rowMax (block x ⟨(i 0).val / 2, by have : (i 0).val < 12 := (i 0).isLt; omega⟩) (inBlock i)

/-- Rows of sixteen, the first twelve of them the rows of twelve. -/
def lay (y : S12x128.Idx → Elt F .f32) : S16x128.Idx → Elt F .f32 := fun i => y fun
  | ⟨0, _⟩ => ⟨(i 0).val % 12, Nat.mod_lt _ (by decide)⟩
  | ⟨1, _⟩ => i 1

omit [FloatOps F] in
/-- Copying block `k` over leaves block `k` of the source on it. -/
theorem copied (x : S1536x768.Idx → Elt F .f32) (f : S1536x768.Idx → Elt F .f32) (k : Fin 6) :
    ∀ i ∈ (inR k).set, (scrP k).view.write (Elt F) f ((inP k).view.read (Elt F) x) Finset.univ i = x i := by
  intro i hi
  obtain ⟨j, rfl⟩ := rows_exists _ k hi
  exact write_piece cc0_scratch0 (inR k) f _ j

omit [FloatOps F] in
/-- The transfer of half `h` leaves those rows on the landing buffer. -/
theorem landed (y : S12x128.Idx → Elt F .f32) (f : S16x128.Idx → Elt F .f32) (h : Fin 2) :
    ∀ i ∈ (landR h).set, (landP h).view.write (Elt F) f ((halfP h).view.read (Elt F) y) Finset.univ i = lay y i := by
  intro i hi
  obtain ⟨j, rfl⟩ := rows_exists _ h hi
  refine (write_piece cc0_scratch1 (landR h) f _ j).trans ?_
  show y ((halfR h).emb j) = lay y ((landR h).emb j)
  unfold lay
  congr 1
  funext a
  have h1 := rows_emb (R := 12) (C := 128) (T := 6) (n := 2) (by decide) h j
  have h2 := rows_emb (R := 16) (C := 128) (T := 6) (n := 2) (by decide) h j
  have hj : (j 0).val < 6 := (j 0).isLt
  have hh := h.isLt
  match a with
  | ⟨0, _⟩ => exact Fin.ext (h1.1.trans (by show _ = (((landR h).emb j) 0).val % 12; rw [h2.1]; omega))
  | ⟨1, _⟩ => exact Fin.ext (h1.2.trans h2.2.symm)

/-- Storing a block's maxima leaves `part` on its two rows. -/
theorem stored (x : S1536x768.Idx → Elt F .f32) (f : S12x128.Idx → Elt F .f32) (k : Fin 6) :
    ∀ i ∈ (outR k).set, (outM.access (outR k)).write (Elt F) f (rowMax (block x k)) Finset.univ i = part x i := by
  intro i hi
  obtain ⟨j, rfl⟩ := rows_exists _ k hi
  refine (write_piece cc0_stg0_0 (outR k) f _ j).trans ?_
  have h1 := rows_emb (R := 12) (C := 128) (T := 2) (n := 6) (by decide) k j
  have hj : (j 0).val < 2 := (j 0).isLt
  unfold part
  have hk : (⟨(((outR k).emb j) 0).val / 2, by rw [h1.1]; have := k.isLt; omega⟩ : Fin 6) = k := Fin.ext (by
    show (((outR k).emb j) 0).val / 2 = k.val
    rw [h1.1]; omega)
  rw [hk]
  congr 1
  funext a
  match a with
  | ⟨0, _⟩ => exact Fin.ext (by show (j 0).val = (((outR k).emb j) 0).val % 2; rw [h1.1]; omega)
  | ⟨1, _⟩ => exact Fin.ext h1.2.symm

omit [FloatOps F] in
/-- Loading block `k` from the VMEM copy reads block `k`. -/
theorem load_block (x : S1536x768.Idx → Elt F .f32) (k : Fin 6) :
    scrM.view.readAt (Elt F) (inR k).toLoadRect x = block x k := rfl

omit [FloatOps F] in
/-- Loading the first twelve rows of the landing buffer reads the rows laid there. -/
theorem load_land (y : S12x128.Idx → Elt F .f32) :
    landM.view.readAt (Elt F) (Rect.unit (s := S16x128) ![0, 0] S12x128.size inb_S16x128_S12x128_0_0).toLoadRect (lay y) = y := by
  funext j
  show lay y ((Rect.unit (s := S16x128) ![0, 0] S12x128.size inb_S16x128_S12x128_0_0).emb j) = y j
  unfold lay
  congr 1
  funext a
  have hj : (j 0).val < 12 := (j 0).isLt
  match a with
  | ⟨0, _⟩ =>
    refine Fin.ext ?_
    show (((Rect.unit (s := S16x128) ![0, 0] S12x128.size inb_S16x128_S12x128_0_0).emb j) 0).val % 12 = (j 0).val
    rw [Rect.emb_apply]
    show (0 + 1 * (j 0).val) % 12 = (j 0).val
    omega
  | ⟨1, _⟩ =>
    refine Fin.ext ?_
    show (((Rect.unit (s := S16x128) ![0, 0] S12x128.size inb_S16x128_S12x128_0_0).emb j) 1).val = (j 1).val
    rw [Rect.emb_apply]
    show 0 + 1 * (j 1).val = (j 1).val
    omega

/-! ## The algebra and the cells -/

/-- One copy for the pipeline's staging cells, one for the kernel's own. -/
abbrev UU : Type := UR sig nD τ × UR sig nD τ

local notation "𝕄" => MT nD τ sig Unit (Elt F) ℕ UU ℕ

/-- Where the staging cells' copy sits, -/
abbrev EP : Emb (UR sig nD τ) (MT nD τ sig Unit (Elt F) ℕ UU ℕ) := embL
/-- and where the kernel's own sits. -/
abbrev ER : Emb (UR sig nD τ) (MT nD τ sig Unit (Elt F) ℕ UU ℕ) := embR

variable (m : (ℓ : Loc nD τ sig) → Buf (Elt F) ℓ)

/-- The kernel's own semaphores: six for the copies, two for sending, two for receiving. -/
abbrev Own : Type := Fin 6 ⊕ Fin 2 ⊕ Fin 2
/-- Their places among the DMA semaphores. -/
def ownS : Own → DmaSem sig
  | .inl k => ⟨k.val + 1, by have := k.isLt; show _ < 11; omega⟩
  | .inr (.inl h) => ⟨h.val + 7, by have := h.isLt; show _ < 11; omega⟩
  | .inr (.inr h) => ⟨h.val + 9, by have := h.isLt; show _ < 11; omega⟩
/-- An own semaphore, as a place of a counter. -/
abbrev osem (o : Own) : SemLoc sig := .dma (ownS o)

/-- The barrier semaphore. -/
abbrev barS : Sem sig := sig.barrier 0 rfl

/-- The semaphore of copy `k`, -/
abbrev copyO (k : Fin 6) : Own := .inl k
/-- of sending half `h`, -/
abbrev sendO (h : Fin 2) : Own := .inr (.inl h)
/-- and of receiving half `h`. -/
abbrev recvO (h : Fin 2) : Own := .inr (.inr h)

/-- The counter of an own semaphore on device `c`, -/
abbrev cell (c : Dev nD) (o : Own) : GSem nD τ sig := ((c : Thread nD τ), osem o)
/-- and that of the barrier. -/
abbrev bar (c : Dev nD) : GSem nD τ sig := ((c : Thread nD τ), .reg barS)

/-- What one copy credits. -/
abbrev NC : ℕ := (scrP 0).view.dmaCredit
/-- What one transfer credits. -/
abbrev NH : ℕ := (landP 0).view.dmaCredit
/-- A copy credits something. -/
theorem NC_pos : 0 < NC := View.dmaCredit_pos _ (by decide)
/-- A transfer credits something. -/
theorem NH_pos : 0 < NH := View.dmaCredit_pos _ (by decide)

/-- The device's input at launch. -/
abbrev xin (c : Dev nD) : S1536x768.Idx → Elt F .f32 := m ((c : Thread nD τ).loc main_arg0)

/-! ## The pieces, held -/

/-- Block `k` of the input, at its launch contents; -/
abbrev inPt (c : Dev nD) (k : Fin 6) : sProp 𝕄 := (inP k).view.loc (c : Thread nD τ) ↦[(inP k).view.set]{fullShare} xin m c
/-- block `k` of the VMEM copy; -/
abbrev scrPt (c : Dev nD) (k : Fin 6) (f : S1536x768.Idx → Elt F .f32) : sProp 𝕄 :=
  (scrP k).view.loc (c : Thread nD τ) ↦[(scrP k).view.set]{fullShare} f
/-- block `k` of the staged result; -/
abbrev outPt (c : Dev nD) (k : Fin 6) (f : S12x128.Idx → Elt F .f32) : sProp 𝕄 :=
  (outM.access (outR k)).loc (c : Thread nD τ) ↦[(outM.access (outR k)).set]{fullShare} f
/-- half `h` of the staged result, at the device's maxima; -/
abbrev halfPt (c : Dev nD) (h : Fin 2) : sProp 𝕄 :=
  (halfP h).view.loc (c : Thread nD τ) ↦[(halfP h).view.set]{fullShare} part (xin m c)
/-- half `h` of the landing buffer. -/
abbrev landPt (c : Dev nD) (h : Fin 2) (f : S16x128.Idx → Elt F .f32) : sProp 𝕄 :=
  (landP h).view.loc (c : Thread nD τ) ↦[(landP h).view.set]{fullShare} f

/-! ## What each semaphore hands over -/

/-- To a device by its partner's signal: the partner's landing buffer, and that the partner's receiving
    semaphores are in use. -/
def barPay (c : Dev nD) : sProp 𝕄 :=
  iprop((∃ f, landPt (pr c) 0 f) ∗ (∃ f, landPt (pr c) 1 f) ∗ reached ER (cell (pr c) (recvO 0)) 0 ∗ reached ER (cell (pr c) (recvO 1)) 0)
/-- By a copy: the block of the VMEM copy at the input's, and the block of the input back. -/
def copyPay (c : Dev nD) (k : Fin 6) : sProp 𝕄 := iprop(scrPt c k (xin m c) ∗ inPt m c k)
/-- By a transfer, to its sender: the half back. -/
def sendPay (c : Dev nD) (h : Fin 2) : sProp 𝕄 := halfPt m c h
/-- By the partner's transfer: the landing half, at the partner's maxima. -/
def recvPay (c : Dev nD) (h : Fin 2) : sProp 𝕄 := landPt c h (lay (part (xin m (pr c))))

/-- What a DMA semaphore hands over, by its place. -/
def dmaPay (c : Dev nD) (s : DmaSem sig) : sProp 𝕄 :=
  if h : 1 ≤ s.val ∧ s.val < 7 then copyPay m c ⟨s.val - 1, by omega⟩
  else if h : 7 ≤ s.val ∧ s.val < 9 then sendPay m c ⟨s.val - 7, by omega⟩
  else if h : 9 ≤ s.val ∧ s.val < 11 then recvPay m c ⟨s.val - 9, by omega⟩
  else iprop(emp)

/-- One round, of one duty, on every semaphore. -/
def Rd : Rounds.Schedule (GSem nD τ sig) Unit 𝕄 where
  duties _ r := if r = 0 then {()} else ∅
  unitless _ := False
  amount g _ _ := match g.2 with
    | .reg _ => 1
    | .dma s => if s.val < 7 then NC else NH
  payload g _ _ := match g.2 with
    | .reg _ => barPay g.1.1
    | .dma s => dmaPay m g.1.1 s
  amount_pos g _ _ _ := by
    rcases g with ⟨t, sm⟩
    cases sm with
    | reg s => exact Nat.one_pos
    | dma s =>
      show 0 < (if s.val < 7 then NC else NH)
      split
      · exact NC_pos
      · exact NH_pos

/-- What a duty hands over may be kept in an invariant. -/
instance Rd_storable (g : GSem nD τ sig) (r : ℕ) (d : Unit) : BI.Storable (upEmb : UEmb _ 𝕄) ((Rd (F := F) m).payload g r d) := by
  rcases g with ⟨t, sm⟩
  cases sm with
  | reg s =>
    show BI.Storable upEmb (barPay t.1)
    unfold barPay; infer_instance
  | dma s =>
    show BI.Storable upEmb (dmaPay m t.1 s)
    unfold dmaPay copyPay sendPay recvPay
    (repeat' split) <;> infer_instance

section Sched

variable (c : Dev nD)

/-- Every semaphore has one duty in round 0, -/
theorem duty (g : GSem nD τ sig) : () ∈ (Rd (F := F) m).duties g 0 := Finset.mem_singleton_self _
/-- and none in a later round. -/
theorem duties_later (g : GSem nD τ sig) : ∀ r, 0 + 1 ≤ r → (Rd (F := F) m).duties g r = ∅ := fun r hr => by
  dsimp only [Rd]; rw [if_neg (by omega)]
/-- The amounts: one for the barrier, -/
theorem amount_bar (u : Unit) : (Rd (F := F) m).amount (bar c) 0 u = 1 := rfl
/-- a block's for a copy, -/
theorem amount_copy (k : Fin 6) (u : Unit) : (Rd (F := F) m).amount (cell c (copyO k)) 0 u = NC :=
  if_pos (by show k.val + 1 < 7; have := k.isLt; omega)
/-- a half's for sending, -/
theorem amount_send (h : Fin 2) (u : Unit) : (Rd (F := F) m).amount (cell c (sendO h)) 0 u = NH := by
  show (if (ownS (sendO h)).val < 7 then NC else NH) = NH
  exact if_neg (Nat.not_lt.mpr (Nat.le_add_left 7 h.val))
/-- and a half's for receiving. -/
theorem amount_recv (h : Fin 2) (u : Unit) : (Rd (F := F) m).amount (cell c (recvO h)) 0 u = NH := by
  show (if (ownS (recvO h)).val < 7 then NC else NH) = NH
  exact if_neg (Nat.not_lt.mpr ((show 7 ≤ 9 by decide).trans (Nat.le_add_left 9 h.val)))
/-- A round expects what its one duty pays. -/
theorem expect_of (g : GSem nD τ sig) : (Rd (F := F) m).expect g 0 = (Rd (F := F) m).amount g 0 () := by
  unfold Schedule.expect Schedule.amountOf
  exact Finset.sum_singleton _ _
/-- The rest of an untouched round is its one duty. -/
theorem rest_of (g : GSem nD τ sig) :
    bigSep ((Rd (F := F) m).duties g 0 \ ∅) (fun u => (Rd (F := F) m).payload g 0 u) = (Rd (F := F) m).payload g 0 () := by
  rw [Finset.sdiff_empty]
  exact bigSep_singleton
/-- What the barrier's duty hands over, -/
theorem payload_bar (u : Unit) : (Rd (F := F) m).payload (bar c) 0 u = barPay c := rfl
/-- what a copy's does, -/
theorem payload_copy (k : Fin 6) (u : Unit) : (Rd (F := F) m).payload (cell c (copyO k)) 0 u = copyPay m c k := by
  have hk := k.isLt
  have e : (ownS (copyO k)).val = k.val + 1 := rfl
  show dmaPay m c (ownS (copyO k)) = _
  unfold dmaPay
  rw [dif_pos (by rw [e]; omega)]
  rfl
/-- what a sending's does, -/
theorem payload_send (h : Fin 2) (u : Unit) : (Rd (F := F) m).payload (cell c (sendO h)) 0 u = sendPay m c h := by
  have hh := h.isLt
  have e : (ownS (sendO h)).val = h.val + 7 := rfl
  show dmaPay m c (ownS (sendO h)) = _
  unfold dmaPay
  rw [dif_neg (by rw [e]; omega), dif_pos (by rw [e]; omega)]
  rfl
/-- and what a receiving's does. -/
theorem payload_recv (h : Fin 2) (u : Unit) : (Rd (F := F) m).payload (cell c (recvO h)) 0 u = recvPay m c h := by
  have hh := h.isLt
  have e : (ownS (recvO h)).val = h.val + 9 := rfl
  show dmaPay m c (ownS (recvO h)) = _
  unfold dmaPay
  rw [dif_neg (by rw [e]; omega), dif_neg (by rw [e]; omega), dif_pos (by rw [e]; omega)]
  rfl

end Sched

/-! ## What a device owes, and the order of its waits -/

/-- Before the first transfer: both of the partner's halves; before the second: the second half. -/
def owe2 (c : Dev nD) : CellTallies nD τ sig Unit := tallyAt (cell (pr c) (recvO 1)) () NH + tallyAt (cell (pr c) (recvO 0)) () NH
/-- Before the second transfer: the second half. -/
def owe1 (c : Dev nD) : CellTallies nD τ sig Unit := tallyAt (cell (pr c) (recvO 1)) () NH
/-- At launch: the signal as well. -/
def O₀ (c : Dev nD) : CellTallies nD τ sig Unit := owe2 c + tallyAt (bar (pr c)) () 1

/-- Every semaphore of a device's core has a level. -/
def L (g : GSem nD τ sig) : Finset Unit := if g.1.2 = .tc then {()} else ∅
/-- The receiving semaphores are paid last. -/
def lv (g : GSem nD τ sig) (_ : Unit) : ℕ := match g.2 with
  | .reg _ => 1
  | .dma s => if 9 ≤ s.val then 2 else 0

/-- No other thread has one. -/
theorem L_of_ne (g : GSem nD τ sig) (h : g.1.2 ≠ .tc) : L g = ∅ := if_neg h
/-- The one label of a core. -/
theorem L_tc (c : Dev nD) (sm : SemLoc sig) : L ((c : Thread nD τ), sm) = {()} := if_pos rfl
/-- The level of a receiving semaphore, -/
theorem lv_recv (c : Dev nD) (h : Fin 2) : lv (cell c (recvO h)) () = 2 := by
  show (if 9 ≤ (ownS (recvO h)).val then 2 else 0) = 2
  exact if_pos (Nat.le_add_left 9 h.val)
/-- and that of a copy's. -/
theorem lv_copy (c : Dev nD) (k : Fin 6) : lv (cell c (copyO k)) () = 0 :=
  if_neg (show ¬ 9 ≤ (ownS (copyO k)).val by show ¬ 9 ≤ k.val + 1; have := k.isLt; omega)

/-- What is owed to receiving semaphores only leaves free to wait on a semaphore of a lower level. -/
theorem mayWait_of (c : Dev nD) (sm : SemLoc sig) (hsm : lv ((c : Thread nD τ), sm) () ≤ 1) (O : CellTallies nD τ sig Unit)
    (hO : ∀ g u, 0 < O g u → ∃ h, g = cell (pr c) (recvO h)) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by obtain ⟨h, rfl⟩ := hO g u hg; rw [L_tc]; exact Finset.mem_singleton_self _)
    (fun p hp => by rw [Finset.mem_singleton.mp hp]; exact hsm)
    (fun g u hg => by obtain ⟨h, rfl⟩ := hO g u hg; rw [lv_recv]; decide)

/-- Before the second transfer only receiving semaphores are owed, -/
theorem owe1_recv (c : Dev nD) (g : GSem nD τ sig) (u : Unit) (hg : 0 < owe1 c g u) : ∃ h, g = cell (pr c) (recvO h) := by
  unfold owe1 at hg
  rw [tallyAt_apply] at hg
  by_cases h : g = cell (pr c) (recvO 1) ∧ u = ()
  · exact ⟨1, h.1⟩
  · rw [if_neg h] at hg; exact absurd hg (Nat.lt_irrefl 0)

/-- and before the first. -/
theorem owe2_recv (c : Dev nD) (g : GSem nD τ sig) (u : Unit) (hg : 0 < owe2 c g u) : ∃ h, g = cell (pr c) (recvO h) := by
  have hg' : 0 < owe1 c g u + tallyAt (cell (pr c) (recvO 0)) () NH g u := hg
  by_cases h : g = cell (pr c) (recvO 0) ∧ u = ()
  · exact ⟨0, h.1⟩
  · rw [tallyAt_apply, if_neg h, Nat.add_zero] at hg'
    exact owe1_recv c g u hg'

/-! ## The ghost state -/

/-- The cells of one device and of all of them. -/
def barCells : Finset (GSem nD τ sig) := Finset.univ.image bar
/-- The kernel's own semaphores, on every device. -/
def ownCells : Finset (GSem nD τ sig) := (Finset.univ : Finset (Dev nD × Own)).image fun p => cell p.1 p.2

/-- A barrier is among the cells, -/
theorem bar_mem (c : Dev nD) : bar c ∈ barCells ∪ ownCells :=
  Finset.mem_union_left _ (Finset.mem_image_of_mem _ (Finset.mem_univ c))
/-- and so is every own semaphore. -/
theorem cell_mem (c : Dev nD) (o : Own) : cell c o ∈ barCells ∪ ownCells :=
  Finset.mem_union_right _ (Finset.mem_image.mpr ⟨(c, o), Finset.mem_univ _, rfl⟩)

/-- The invariants of all the cells, at the names `K` they were given. -/
def invs (K : GSem nD τ sig → ℕ) : sProp 𝕄 := bigSep (barCells ∪ ownCells) fun g => cellInv ER (Rd m) (K g) g

/-- The invariants may be read any number of times. -/
instance invs_persistent (K : GSem nD τ sig → ℕ) : BI.Persistent (invs m K) := by unfold invs; infer_instance

/-- A barrier's invariant, -/
theorem inv_bar (K : GSem nD τ sig → ℕ) (c : Dev nD) : invs m K ⊢ cellInv ER (Rd m) (K (bar c)) (bar c) :=
  bigSep_elim (Φ := fun g => cellInv ER (Rd m) (K g) g) (bar_mem c)
/-- and an own semaphore's, out of all. -/
theorem inv_cell (K : GSem nD τ sig → ℕ) (c : Dev nD) (o : Own) : invs m K ⊢ cellInv ER (Rd m) (K (cell c o)) (cell c o) :=
  bigSep_elim (Φ := fun g => cellInv ER (Rd m) (K g) g) (cell_mem c o)

/-- The semaphore device `c` pays its duty of kind `o` on: the partner's for what it receives, its own else. -/
abbrev payee (c : Dev nD) : Own → GSem nD τ sig
  | .inl k => cell c (copyO k)
  | .inr (.inl h) => cell c (sendO h)
  | .inr (.inr h) => cell (pr c) (recvO h)

/-- From launch to the kernel: the invariants; the place at the open barrier cell and the right to open the kernel's
    own cells; that the partner's barrier cell is in use; the duties this device pays. -/
def ghost (K : GSem nD τ sig → ℕ) (c : Dev nD) : sProp 𝕄 :=
  iprop(invs m K ∗ atPos ER (bar c) 0 ∅ 0 ∗ (bigSep Finset.univ fun o : Own => openTok ER (cell c o))
    ∗ reached ER (bar (pr c)) 0 ∗ dutyTok ER (bar (pr c)) 0 () ∗ bigSep Finset.univ fun o : Own => dutyTok ER (payee c o) 0 ())

/-- The credits the device waits with, beside. -/
def start (c : Dev nD) : sProp 𝕄 :=
  iprop((∃ K, ghost m K c) ∗ cred (tallyAt (bar c) () 1) ∗ cred (tallyAt (cell c (recvO 0)) () NH) ∗ cred (tallyAt (cell c (recvO 1)) () NH))

/-- The same once the kernel's own cells are open. -/
def opened (K : GSem nD τ sig → ℕ) (c : Dev nD) : sProp 𝕄 :=
  iprop(invs m K ∗ atPos ER (bar c) 0 ∅ 0 ∗ (bigSep Finset.univ fun o : Own => iprop(atPos ER (cell c o) 0 ∅ 0 ∗ reached ER (cell c o) 0))
    ∗ reached ER (bar (pr c)) 0 ∗ dutyTok ER (bar (pr c)) 0 () ∗ bigSep Finset.univ fun o : Own => dutyTok ER (payee c o) 0 ())

/-- A cell whose one round is over gives its counter back, at zero. -/
theorem close (κ : ℕ) (g : GSem nD τ sig) :
    iprop(cellInv ER (Rd m) κ g ∗ atPos ER g (0 + 1) ∅ 0) ⊢ (|={Set.univ}=> semVal g 0 : sProp 𝕄) :=
  Rounds.cell_close ER (Rd m) (Set.mem_univ κ) id (duties_later m g)

/-- No loop needs a variant. -/
abbrev 𝒱₀ : Variants := Variants.none

end Cert.RowMax

end
-- ==== Proof.Steps.lean ====
/- The kernel's operations on the pieces: starting the copy of a block, reducing a block once its copy is in, sending a
   half of the maxima and taking delivery of one. Each is stated once, for every block or half. -/
module

public import proofs.«01_k».proof.Proof.Protocol

@[expose] public section

noncomputable section

namespace Cert.RowMax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The core owes `O`, whatever it has waited for. -/
def owing (c : Dev nD) (O : CellTallies nD τ sig Unit) : sProp 𝕄 := iprop(∃ W, owes (c : Thread nD τ) O W)

/-- A program of the core from here on. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## One block -/

/-- Block `k` before its copy is started. -/
def fresh (c : Dev nD) (k : Fin 6) : sProp 𝕄 :=
  iprop((atPos ER (cell c (copyO k)) 0 ∅ 0 ∗ reached ER (cell c (copyO k)) 0) ∗ dutyTok ER (cell c (copyO k)) 0 ()
    ∗ inPt m c k ∗ (∃ f, scrPt c k f) ∗ ∃ f, outPt c k f)
/-- While its copy is in flight. -/
def flying (c : Dev nD) (k : Fin 6) : sProp 𝕄 :=
  iprop(atPos ER (cell c (copyO k)) 0 ∅ 0 ∗ cred (tallyAt (cell c (copyO k)) () NC) ∗ ∃ f, outPt c k f)
/-- Once its maxima are stored: what is left beside the maxima, and the maxima. -/
def used (c : Dev nD) (k : Fin 6) : sProp 𝕄 :=
  iprop(atPos ER (cell c (copyO k)) (0 + 1) ∅ 0 ∗ inPt m c k ∗ scrPt c k (xin m c))
/-- A block whose maxima are stored. -/
def reduced (c : Dev nD) (k : Fin 6) : sProp 𝕄 := iprop(used m c k ∗ outPt c k (part (xin m c)))

/-- Starting the copy of block `k`. -/
theorem copy_step (K : GSem nD τ sig → ℕ) (c : Dev nD) (k : Fin 6) {hsrc hdst hsem}
    {p : PUnit → Prog (TpuEff nD τ sig (Elt F) Λ₀ .tc) PUnit} {Q : PUnit → sProp 𝕄} :
    iprop(invs m K ∗ fresh m c k)
      ⊢ iprop((flying c k -∗ runs c (p ⟨⟩) Q)
          -∗ runs c (.op (.enqueueDma (inP k) (.here (scrP k)) (.dma (ownS (copyO k))) hsrc hdst hsem) p) Q) := by
  unfold fresh
  iintro ⟨#HI, ⟨Hat, #Hr⟩, Ht, Hx, ⟨%f, Hs⟩, Ho⟩ Hk
  ihave #HI' := (inv_cell m K c (copyO k)) $$ HI
  iapply (Rounds.wp_copy_pointsTo 𝒱₀ ER (Rd m) (c : Thread nD τ) none (src := inP k) (dst := scrP k) (sem := osem (copyO k)) (q := fullShare)
      (fs := xin m c) (fd := f) (r := 0) (d := ()) (κ := K (cell c (copyO k)))
      (duty m _) () NC rfl (amount_copy m c k ())
      (by
        rw [payload_copy]; unfold copyPay scrPt
        rw [pointsTo_congr (by rw [scrP_set]; exact copied (xin m c) f k)])) $$ [Hx Hs Ht]
  · isplitr; · iexact HI'
    isplitl [Hx]; · iexact Hx
    isplitl [Hs]; · iexact Hs
    isplitl [Ht]; · iexact Ht
    iexact Hr
  iintro Hc
  iapply Hk
  unfold flying
  isplitl [Hat]; · iexact Hat
  isplitl [Hc]; · iexact Hc
  iexact Ho

/-- Waiting for the copy of block `k`. -/
theorem wait_step (K : GSem nD τ sig → ℕ) (c : Dev nD) (k : Fin 6) (O : CellTallies nD τ sig Unit)
    (hO : ∀ g u, 0 < O g u → ∃ h, g = cell (pr c) (recvO h)) {hsrc hdst}
    {p : PUnit → Prog (TpuEff nD τ sig (Elt F) Λ₀ .tc) PUnit} {Q : PUnit → sProp 𝕄} :
    iprop(invs m K ∗ levAts L lv ∗ flying c k ∗ owing c O)
      ⊢ iprop((used m c k ∗ (∃ f, outPt c k f) ∗ owing c O -∗ runs c (p ⟨⟩) Q)
          -∗ runs c (.op (.waitDma2 (ownS (copyO k)) (inP k) (scrP k) hsrc hdst) p) Q) := by
  unfold flying owing
  iintro ⟨#HI, #Hlev, ⟨Hat, Hc, Ho⟩, ⟨%W, HO⟩⟩ Hk
  ihave #HI' := (inv_cell m K c (copyO k)) $$ HI
  iapply (Rounds.wp_wait_rest_token 𝒱₀ ER (Rd m) (c : Thread nD τ) none (κ := K (cell c (copyO k)))
      (wpE_waitDma2_eq 𝒱₀ (c : Thread nD τ) none Set.univ) (Set.mem_univ _) () (O := O) (W := W) (R := 0) (m := 0) (T := ∅)
      (by rw [expect_of, amount_copy, Nat.zero_add])) $$ [Hc HO Hat]
  · isplitr; · iexact HI'
    isplitl [Hc]; · iexact Hc
    isplitl [HO]; · iexact HO
    isplitr; · iapply (mayWait_of c (osem (copyO k)) (by rw [lv_copy]; decide) O hO); iexact Hlev
    iexact Hat
  iintro ⟨HO, Hat, -, Hpay⟩
  ihave Hp := (Entails.of_eq ((rest_of m (cell c (copyO k))).trans (payload_copy m c k ()))) $$ Hpay
  unfold copyPay
  icases Hp with ⟨Hs, Hx⟩
  iapply Hk
  unfold used
  isplitl [Hat Hs Hx]
  · isplitl [Hat]; · iexact Hat
    isplitl [Hx] <;> iassumption
  isplitl [Ho]; · iexact Ho
  iexists _; iexact HO

/-- Loading block `k`: what is read is block `k` of the input. -/
theorem load_step (c : Dev nD) (k : Fin 6) {hl} {p : (S256x768.Idx → Elt F .f32) → Prog (TpuEff nD τ sig (Elt F) Λ₀ .tc) PUnit} {Q : PUnit → sProp 𝕄} :
    used m c k ⊢ iprop((used m c k -∗ runs c (p (block (xin m c) k)) Q) -∗ runs c (.op (.load scrM (inR k).toLoadRect hl) p) Q) := by
  unfold used
  iintro ⟨Hat, Hx, Hs⟩ Hk
  iapply (wp_load 𝒱₀ (c : Thread nD τ) none Set.univ (m := scrM) (r := (inR k).toLoadRect)
    (by rw [scrP_set]; exact (Finset.map_refl).subset)) $$ Hs
  iintro Hs
  rw [load_block]
  iapply Hk
  isplitl [Hat]; · iexact Hat
  isplitl [Hx] <;> iassumption

/-- Storing the maxima of block `k` (after reading, and ignoring, what was there). -/
theorem store_step (c : Dev nD) (k : Fin 6) {hl hx hm} {p : PUnit → Prog (TpuEff nD τ sig (Elt F) Λ₀ .tc) PUnit} {Q : PUnit → sProp 𝕄} :
    iprop(∃ f, outPt c k f)
      ⊢ iprop((outPt c k (part (xin m c)) -∗ runs c (p ⟨⟩) Q)
          -∗ runs c (.op (.load outM (outR k).toLoadRect hl) fun _ =>
              .op (.store outM (outR k) (rowMax (block (xin m c) k)) Finset.univ hx hm) p) Q) := by
  iintro ⟨%f, Ho⟩ Hk
  iapply (wp_load_rect 𝒱₀ (c : Thread nD τ) none Set.univ (m := outM) (r := outR k) subset_rfl) $$ Ho
  iintro Ho
  iapply (wp_store 𝒱₀ (c : Thread nD τ) none Set.univ (m := outM) (r := outR k) (Mk := Finset.univ)
    (S := (outM.access (outR k)).set) (f := f) (show (outM.access (outR k)).set ⊆ (outM.access (outR k)).set from subset_rfl)) $$ Ho
  iintro Ho
  iapply Hk
  have e : (outPt c k ((outM.access (outR k)).write (Elt F) f (rowMax (block (xin m c) k)) Finset.univ) : sProp 𝕄) = outPt c k (part (xin m c)) :=
    pointsTo_congr (by rw [outA_set]; exact stored (xin m c) f k)
  ihave Ho := (Entails.of_eq e) $$ Ho
  iexact Ho

/-- Reducing block `k`: waiting for its copy, loading it, storing its maxima. -/
theorem reduce_step (K : GSem nD τ sig → ℕ) (c : Dev nD) (k : Fin 6) (O : CellTallies nD τ sig Unit)
    (hO : ∀ g u, 0 < O g u → ∃ h, g = cell (pr c) (recvO h)) {hsrc hdst hl hl' hx hm}
    {p : PUnit → Prog (TpuEff nD τ sig (Elt F) Λ₀ .tc) PUnit} {Q : PUnit → sProp 𝕄} :
    iprop(invs m K ∗ levAts L lv ∗ flying c k ∗ owing c O)
      ⊢ iprop((reduced m c k ∗ owing c O -∗ runs c (p ⟨⟩) Q)
          -∗ runs c (.op (.waitDma2 (ownS (copyO k)) (inP k) (scrP k) hsrc hdst) fun _ =>
              .op (.load scrM (inR k).toLoadRect hl) fun v =>
              .op (.load outM (outR k).toLoadRect hl') fun _ =>
              .op (.store outM (outR k) (rowMax v) Finset.univ hx hm) p) Q) := by
  iintro H Hk
  iapply (wait_step m K c k O hO) $$ H
  iintro ⟨Hu, Ho, HO⟩
  iapply (load_step m c k) $$ Hu
  iintro Hu
  iapply (store_step m c k) $$ Ho
  iintro Ho
  iapply Hk
  unfold reduced
  isplitr [HO]
  · isplitl [Hu] <;> iassumption
  iexact HO

/-! ## One half -/

/-- Sending half `h` of the maxima to the partner, into its landing half. -/
theorem send_step (K : GSem nD τ sig → ℕ) (c n : Dev nD) (hn : n = pr c) (h : Fin 2) (O₁ O₂ : CellTallies nD τ sig Unit)
    (hO : O₁ = O₂ + tallyAt (cell (pr c) (recvO h)) () NH) {hsc hsrc hdst hsem}
    {p : PUnit → Prog (TpuEff nD τ sig (Elt F) Λ₀ .tc) PUnit} {Q : PUnit → sProp 𝕄} :
    iprop(invs m K ∗ halfPt m c h ∗ (∃ f, landPt (pr c) h f) ∗ owing c O₁
        ∗ dutyTok ER (cell c (sendO h)) 0 () ∗ reached ER (cell c (sendO h)) 0
        ∗ dutyTok ER (cell (pr c) (recvO h)) 0 () ∗ reached ER (cell (pr c) (recvO h)) 0)
      ⊢ iprop((cred (tallyAt (cell c (sendO h)) () NH) ∗ owing c O₂ -∗ runs c (p ⟨⟩) Q)
          -∗ runs c (.op (.enqueueDma (halfP h) (.remote (Dev.tc n : Thread nD τ) (landP h) (.dma (ownS (sendO h))) hsc)
                (.dma (ownS (recvO h))) hsrc hdst hsem) p) Q) := by
  subst hn
  unfold owing
  iintro ⟨#HI, Hx, ⟨%f, Hl⟩, ⟨%W, HO⟩, Hts, #Hrs, Htr, #Hrr⟩ Hk
  ihave #HI1 := (inv_cell m K c (sendO h)) $$ HI
  ihave #HI2 := (inv_cell m K (pr c) (recvO h)) $$ HI
  iapply (Rounds.wp_send_pointsTo 𝒱₀ ER (Rd m) (c : Thread nD τ) none (c' := (pr c : Thread nD τ)) (src := halfP h) (dst := landP h)
      (sS := osem (sendO h)) (sem := osem (recvO h)) (q := fullShare) (fs := part (xin m c)) (κ₁ := K (cell c (sendO h)))
      (κ₂ := K (cell (pr c) (recvO h))) (r₁ := 0) (r₂ := 0) (d₁ := ()) (d₂ := ()) (fd := f)
      (duty m _) (duty m _) () () NH rfl (amount_send m c h ()) (amount_recv m (pr c) h ()) O₂ hO (W := W)
      (by rw [payload_send]; exact BI.Entails.refl _)
      (by
        rw [payload_recv]; unfold recvPay landPt; rw [pr_pr]
        rw [pointsTo_congr (by rw [landP_set]; exact landed (part (xin m c)) f h)])) $$ [Hx Hl HO Hts Htr]
  · isplitr; · iexact HI1
    isplitr; · iexact HI2
    isplitl [Hx]; · iexact Hx
    isplitl [Hl]; · iexact Hl
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists _; iexact HO

/-- Waiting for a transfer on one of the kernel's own semaphores, owing nothing: what it hands over. -/
theorem take_step (K : GSem nD τ sig → ℕ) (c : Dev nD) (o : Own) {sp sp' : Space} {src : Memref sig .tc sp S6x128 .f32} {dst : Memref sig .tc sp' S6x128 .f32}
    (hN : dst.view.dmaCredit = (Rd (F := F) m).amount (cell c o) 0 ()) {hsrc hdst}
    {p : PUnit → Prog (TpuEff nD τ sig (Elt F) Λ₀ .tc) PUnit} {Q : PUnit → sProp 𝕄} :
    iprop(invs m K ∗ cred (tallyAt (cell c o) () dst.view.dmaCredit) ∗ atPos ER (cell c o) 0 ∅ 0 ∗ owing c 0)
      ⊢ iprop((atPos ER (cell c o) (0 + 1) ∅ 0 ∗ (Rd (F := F) m).payload (cell c o) 0 () ∗ owing c 0 -∗ runs c (p ⟨⟩) Q)
          -∗ runs c (.op (.waitDma2 (ownS o) src dst hsrc hdst) p) Q) := by
  unfold owing
  iintro ⟨#HI, Hc, Hat, ⟨%W, HO⟩⟩ Hk
  ihave #HI' := (inv_cell m K c o) $$ HI
  iapply (Rounds.wp_wait_rest_token 𝒱₀ ER (Rd m) (c : Thread nD τ) none (κ := K (cell c o))
      (wpE_waitDma2_eq 𝒱₀ (c : Thread nD τ) none Set.univ) (Set.mem_univ _) () (O := 0) (W := W) (R := 0) (m := 0) (T := ∅)
      (by rw [expect_of, Nat.zero_add, hN])) $$ [Hc HO Hat]
  · isplitr; · iexact HI'
    isplitl [Hc]; · iexact Hc
    isplitl [HO]; · iexact HO
    isplitr; · rw [MayWait_zero]; iempintro
    iexact Hat
  iintro ⟨HO, Hat, -, Hpay⟩
  ihave Hp := (Entails.of_eq (rest_of m (cell c o))) $$ Hpay
  iapply Hk
  isplitl [Hat]; · iexact Hat
  isplitl [Hp]; · iexact Hp
  iexists _; iexact HO

end Cert.RowMax

end
-- ==== Proof.Cuts.lean ====
/- Cutting the held buffers into their pieces and putting them together again, and the same for the kernel's own
   semaphores: what the kernel enters with is what its steps take, and what they leave is what it returns. -/
module

public import proofs.«01_k».proof.Proof.Steps

@[expose] public section

noncomputable section

namespace Cert.RowMax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- A buffer of the core, whole. -/
abbrev pt (c : Dev nD) (b : Ref sig .tc) (f : b.ty.Contents (Elt F)) : sProp 𝕄 := (Memref.whole b).view.loc (c : Thread nD τ) ↦{fullShare} f

/-! ## Buffers -/

/-- The six blocks make up the input. -/
theorem in_cover : (Finset.univ.biUnion fun k : Fin 6 => (inP k).view.set) = (Finset.univ : Finset S1536x768.Idx) :=
  (Finset.biUnion_congr rfl fun k _ => inP_set k).trans (rows_cover (R := 1536) (C := 768) (T := 256) (n := 6) rfl)
/-- The six blocks make up the VMEM copy. -/
theorem scr_cover : (Finset.univ.biUnion fun k : Fin 6 => (scrP k).view.set) = (Finset.univ : Finset S1536x768.Idx) :=
  (Finset.biUnion_congr rfl fun k _ => scrP_set k).trans (rows_cover (R := 1536) (C := 768) (T := 256) (n := 6) rfl)
/-- Six pairs of rows make up the staged result. -/
theorem out_cover : (Finset.univ.biUnion fun k : Fin 6 => (outM.access (outR k)).set) = (Finset.univ : Finset S12x128.Idx) :=
  (Finset.biUnion_congr rfl fun k _ => outA_set k).trans (rows_cover (R := 12) (C := 128) (T := 2) (n := 6) rfl)
/-- Two halves make up the staged result. -/
theorem half_cover : (Finset.univ.biUnion fun h : Fin 2 => (halfP h).view.set) = (Finset.univ : Finset S12x128.Idx) :=
  (Finset.biUnion_congr rfl fun h _ => halfP_set h).trans (rows_cover (R := 12) (C := 128) (T := 6) (n := 2) rfl)

/-- The input is its six blocks. -/
theorem in_cut (c : Dev nD) : (pt c main_arg0 (xin m c) : sProp 𝕄) = bigSep Finset.univ fun k => inPt m c k := by
  refine Eq.trans ?_ (pointsTo_biUnion (ℓ := inM.view.loc (c : Thread nD τ)) Finset.univ (fun k : Fin 6 => (inP k).view.set)
    (fun k _ k' _ h => by rw [inP_set, inP_set]; exact rows_disjoint _ h))
  exact congrArg (fun S => (inM.view.loc (c : Thread nD τ) ↦[S]{fullShare} xin m c : sProp 𝕄))
    in_cover.symm

/-- So is its VMEM copy. -/
theorem scr_cut (c : Dev nD) (f : S1536x768.Idx → Elt F .f32) :
    (pt c cc0_scratch0 f : sProp 𝕄) = bigSep Finset.univ fun k => scrPt c k f := by
  refine Eq.trans ?_ (pointsTo_biUnion (ℓ := scrM.view.loc (c : Thread nD τ)) Finset.univ (fun k : Fin 6 => (scrP k).view.set)
    (fun k _ k' _ h => by rw [scrP_set, scrP_set]; exact rows_disjoint _ h))
  exact congrArg (fun S => (scrM.view.loc (c : Thread nD τ) ↦[S]{fullShare} f : sProp 𝕄))
    scr_cover.symm

/-- The staged result is its six blocks, -/
theorem out_cut (c : Dev nD) (f : S12x128.Idx → Elt F .f32) :
    (pt c cc0_stg0_0 f : sProp 𝕄) = bigSep Finset.univ fun k => outPt c k f := by
  refine Eq.trans ?_ (pointsTo_biUnion (ℓ := outM.view.loc (c : Thread nD τ)) Finset.univ (fun k : Fin 6 => (outM.access (outR k)).set)
    (fun k _ k' _ h => by rw [outA_set, outA_set]; exact rows_disjoint _ h))
  exact congrArg (fun S => (outM.view.loc (c : Thread nD τ) ↦[S]{fullShare} f : sProp 𝕄))
    out_cover.symm

/-- and its two halves, -/
theorem out_halves (c : Dev nD) : (pt c cc0_stg0_0 (part (xin m c)) : sProp 𝕄) = iprop(halfPt m c 0 ∗ halfPt m c 1) := by
  refine Eq.trans ?_ ((pointsTo_biUnion (ℓ := outM.view.loc (c : Thread nD τ)) Finset.univ (fun h : Fin 2 => (halfP h).view.set)
    (fun h _ h' _ hh => by rw [halfP_set, halfP_set]; exact rows_disjoint _ hh)).trans (BI.bigSep_fin_two _))
  exact congrArg (fun S => (outM.view.loc (c : Thread nD τ) ↦[S]{fullShare} part (xin m c) : sProp 𝕄))
    half_cover.symm

/-- each half three of the blocks. -/
theorem half_cut (c : Dev nD) (h : Fin 2) :
    (halfPt m c h : sProp 𝕄) = bigSep (Finset.univ.filter fun k : Fin 6 => k.val / 3 = h.val) fun k => outPt c k (part (xin m c)) := by
  refine Eq.trans ?_ (pointsTo_biUnion (ℓ := outM.view.loc (c : Thread nD τ)) _ (fun k : Fin 6 => (outM.access (outR k)).set)
    (fun k _ k' _ hh => by rw [outA_set, outA_set]; exact rows_disjoint _ hh))
  rw [show ((Finset.univ.filter fun k : Fin 6 => k.val / 3 = h.val).biUnion fun k : Fin 6 => (outM.access (outR k)).set) = (halfP h).view.set from
    ((Finset.biUnion_congr rfl fun k _ => outA_set k).trans (half_blocks h)).trans (halfP_set h).symm]

/-- The first half of the staged result is its first three blocks. -/
theorem half0 (c : Dev nD) : (halfPt m c 0 : sProp 𝕄)
    = iprop(outPt c 0 (part (xin m c)) ∗ outPt c 1 (part (xin m c)) ∗ outPt c 2 (part (xin m c))) := by
  rw [half_cut, bigSep_eq_bigSepL_of_eq [0, 1, 2] (by decide) (by decide)]
  rfl
/-- The second half is its last three blocks. -/
theorem half1 (c : Dev nD) : (halfPt m c 1 : sProp 𝕄)
    = iprop(outPt c 3 (part (xin m c)) ∗ outPt c 4 (part (xin m c)) ∗ outPt c 5 (part (xin m c))) := by
  rw [half_cut, bigSep_eq_bigSepL_of_eq [3, 4, 5] (by decide) (by decide)]
  rfl

/-- The rows of the landing buffer the transfers write. -/
abbrev landSet : Finset S16x128.Idx := (Finset.univ : Finset (Fin 2)).biUnion fun h => (landP h).view.set
/-- Those rows, and the other four. -/
abbrev landBoth (c : Dev nD) (f : S16x128.Idx → Elt F .f32) : sProp 𝕄 := landM.view.loc (c : Thread nD τ) ↦[landSet]{fullShare} f
/-- The rows of the landing buffer that no transfer writes. -/
abbrev landRest (c : Dev nD) (f : S16x128.Idx → Elt F .f32) : sProp 𝕄 := landM.view.loc (c : Thread nD τ) ↦[Finset.univ \ landSet]{fullShare} f

/-- The twelve rows that transfers write are the two halves. -/
theorem land_halves (c : Dev nD) (f : S16x128.Idx → Elt F .f32) : (landBoth c f : sProp 𝕄) = iprop(landPt c 0 f ∗ landPt c 1 f) :=
  (pointsTo_biUnion (ℓ := landM.view.loc (c : Thread nD τ)) Finset.univ (fun h : Fin 2 => (landP h).view.set)
    (fun h _ h' _ hh => by rw [landP_set, landP_set]; exact rows_disjoint _ hh)).trans (BI.bigSep_fin_two _)

/-- The landing buffer cut into its two halves and the rows no transfer writes. -/
theorem land_cut (c : Dev nD) (f : S16x128.Idx → Elt F .f32) :
    (pt c cc0_scratch1 f : sProp 𝕄) ⊢ iprop((landPt c 0 f ∗ landPt c 1 f) ∗ landRest c f) := by
  rw [← land_halves]
  exact (pointsTo_split_subset (Finset.subset_univ landSet)).1

/-- The two halves and the rows no transfer writes, joined again. -/
theorem land_join (c : Dev nD) (f g : S16x128.Idx → Elt F .f32) :
    iprop(landBoth c g ∗ landRest c f) ⊢ (iprop(∃ f, pt c cc0_scratch1 f) : sProp 𝕄) := by
  iintro H
  ihave H := (pointsTo_join_subset (Finset.subset_univ landSet)) $$ H
  iexists _
  iexact H

/-- The twelve rows loaded are among them. -/
theorem land_load_subset : landM.view.setOn (Rect.unit (s := S16x128) ![0, 0] S12x128.size inb_S16x128_S12x128_0_0).toLoadRect.set ⊆ landSet := by
  intro i hi
  have hi' : i ∈ (Rect.unit (s := S16x128) ![0, 0] S12x128.size inb_S16x128_S12x128_0_0).set := by
    obtain ⟨j, hj, rfl⟩ := Finset.mem_map.mp hi
    exact hj
  have h12 : (i 0).val < 12 := by
    have h0 := (Rect.mem_set_unit.mp hi' 0).2
    exact lt_of_lt_of_eq h0 rfl
  have h := land_first.mpr h12
  rw [Finset.mem_biUnion] at h ⊢
  obtain ⟨k, hk, hik⟩ := h
  exact ⟨k, hk, by rw [landP_set]; exact hik⟩

/-! ## Semaphores -/

/-- The sending and receiving semaphores of half `h` before the transfers. -/
def halfFresh (c : Dev nD) (h : Fin 2) : sProp 𝕄 :=
  iprop((atPos ER (cell c (sendO h)) 0 ∅ 0 ∗ reached ER (cell c (sendO h)) 0) ∗ (atPos ER (cell c (recvO h)) 0 ∅ 0 ∗ reached ER (cell c (recvO h)) 0)
    ∗ dutyTok ER (cell c (sendO h)) 0 () ∗ dutyTok ER (cell (pr c) (recvO h)) 0 ())

/-- A product over the own semaphores, by their three kinds. -/
theorem own_sum (Φ : Own → sProp 𝕄) :
    bigSep Finset.univ Φ = iprop((bigSep Finset.univ fun k => Φ (copyO k)) ∗ (bigSep Finset.univ fun h => Φ (sendO h)) ∗ bigSep Finset.univ fun h => Φ (recvO h)) := by
  rw [BI.bigSep_univ_sum, BI.bigSep_univ_sum]; rfl

/-- A product over six, written out. -/
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A product over two, written out. -/
theorem two (Φ : Fin 2 → sProp 𝕄) : bigSep Finset.univ Φ = iprop(Φ 0 ∗ Φ 1) := BI.bigSep_fin_two Φ

/-- A block of the VMEM copy at given contents is one at some contents. -/
theorem scr_some (c : Dev nD) (k : Fin 6) (f : S1536x768.Idx → Elt F .f32) : (scrPt c k f : sProp 𝕄) ⊢ iprop(∃ f, scrPt c k f) := by
  iintro H; iexists f; iexact H
/-- A block of the staged result at given contents is one at some contents. -/
theorem out_some (c : Dev nD) (k : Fin 6) (f : S12x128.Idx → Elt F .f32) : (outPt c k f : sProp 𝕄) ⊢ iprop(∃ f, outPt c k f) := by
  iintro H; iexists f; iexact H

/-- What the kernel holds at its start, block by block and half by half. -/
theorem deal (c : Dev nD) :
    iprop((bigSep Finset.univ fun o : Own => iprop(atPos ER (cell c o) 0 ∅ 0 ∗ reached ER (cell c o) 0))
        ∗ (bigSep Finset.univ fun o : Own => dutyTok ER (payee c o) 0 ())
        ∗ pt c main_arg0 (xin m c) ∗ (∃ f, pt c cc0_scratch0 f) ∗ ∃ f, pt c cc0_stg0_0 f)
      ⊢ (iprop((bigSep Finset.univ fun k => fresh m c k) ∗ halfFresh c 0 ∗ halfFresh c 1) : sProp 𝕄) := by
  have e : (bigSep Finset.univ fun k => fresh m c k) = (iprop((bigSep Finset.univ fun k => iprop(atPos ER (cell c (copyO k)) 0 ∅ 0 ∗ reached ER (cell c (copyO k)) 0))
      ∗ (bigSep Finset.univ fun k => dutyTok ER (cell c (copyO k)) 0 ()) ∗ (bigSep Finset.univ fun k => inPt m c k)
      ∗ (bigSep Finset.univ fun k => iprop(∃ f, scrPt c k f)) ∗ bigSep Finset.univ fun k => iprop(∃ f, outPt c k f)) : sProp 𝕄) := by
    unfold fresh; simp only [bigSep_sep']
  rw [e, own_sum, own_sum, in_cut]
  simp only [two]
  iintro ⟨⟨Ha, ⟨HaS0, HaS1⟩, ⟨HaR0, HaR1⟩⟩, ⟨Ht, ⟨HtS0, HtS1⟩, ⟨HtR0, HtR1⟩⟩, Hx, ⟨%f, Hs⟩, ⟨%g, Ho⟩⟩
  ihave Hs := (Entails.of_eq (scr_cut c f)) $$ Hs
  ihave Ho := (Entails.of_eq (out_cut c g)) $$ Ho
  have hs : (bigSep Finset.univ fun k : Fin 6 => (scrPt c k f : sProp 𝕄)) ⊢ bigSep Finset.univ fun k : Fin 6 => iprop(∃ f, scrPt c k f) :=
    bigSep_mono fun k _ => scr_some c k f
  have ho : (bigSep Finset.univ fun k : Fin 6 => (outPt c k g : sProp 𝕄)) ⊢ bigSep Finset.univ fun k : Fin 6 => iprop(∃ f, outPt c k f) :=
    bigSep_mono fun k _ => out_some c k g
  isplitl [Ha Ht Hx Hs Ho]
  · isplitl [Ha]; · iexact Ha
    isplitl [Ht]; · iexact Ht
    isplitl [Hx]; · iexact Hx
    isplitl [Hs]
    · iapply hs; iexact Hs
    · iapply ho; iexact Ho
  unfold halfFresh
  isplitl [HaS0 HaR0 HtS0 HtR0]
  · isplitl [HaS0]; · iexact HaS0
    isplitl [HaR0]; · iexact HaR0
    isplitl [HtS0] <;> iassumption
  · isplitl [HaS1]; · iexact HaS1
    isplitl [HaR1]; · iexact HaR1
    isplitl [HtS1] <;> iassumption

/-- What the blocks leave: the input, its copy, and the six copy semaphores' places past their round. -/
theorem gather (c : Dev nD) :
    (bigSep Finset.univ fun k => used m c k)
      ⊢ (iprop((bigSep Finset.univ fun k => atPos ER (cell c (copyO k)) (0 + 1) ∅ 0) ∗ pt c main_arg0 (xin m c) ∗ ∃ f, pt c cc0_scratch0 f) : sProp 𝕄) := by
  have e : (bigSep Finset.univ fun k => used m c k) = (iprop((bigSep Finset.univ fun k => atPos ER (cell c (copyO k)) (0 + 1) ∅ 0)
      ∗ (bigSep Finset.univ fun k => inPt m c k) ∗ bigSep Finset.univ fun k => scrPt c k (xin m c)) : sProp 𝕄) := by
    unfold used; simp only [bigSep_sep']
  rw [e, in_cut, ← scr_cut]
  iintro ⟨Ha, Hx, Hs⟩
  isplitl [Ha]; · iexact Ha
  isplitl [Hx]; · iexact Hx
  iexists _; iexact Hs

/-- An update of each conjunct that the invariants allow is one of them all. -/
theorem update_all (K : GSem nD τ sig → ℕ) {I : Type} [Fintype I] [DecidableEq I] {Φ Ψ : I → sProp 𝕄}
    (h : ∀ i, iprop(invs m K ∗ Φ i) ⊢ iprop(|={Set.univ}=> Ψ i)) :
    iprop(invs m K ∗ bigSep Finset.univ Φ) ⊢ (|={Set.univ}=> bigSep Finset.univ Ψ : sProp 𝕄) := by
  refine (bigSep_with_persistent (R := invs m K) (Φ := Φ) (Ψ := fun i => iprop(|={Set.univ}=> Ψ i)) fun i _ => h i).trans ?_
  exact bigSep_fupd Finset.univ Ψ

/-- All the kernel's own cells, their rounds over, give their counters back at zero. -/
theorem close_all (K : GSem nD τ sig → ℕ) (c : Dev nD) :
    iprop(invs m K ∗ bigSep Finset.univ fun o : Own => atPos ER (cell c o) (0 + 1) ∅ 0)
      ⊢ (|={Set.univ}=> bigSep Finset.univ fun o : Own => semVal (cell c o) 0 : sProp 𝕄) :=
  update_all m K fun o => by
    iintro ⟨#HI, H⟩
    ihave #HI' := (inv_cell m K c o) $$ HI
    iapply (close m (K (cell c o)) (cell c o))
    isplitr; · iexact HI'
    iexact H

/-- All the kernel's own cells, opened. -/
theorem open_all (K : GSem nD τ sig → ℕ) (c : Dev nD) :
    iprop(invs m K ∗ bigSep Finset.univ fun o : Own => iprop(openTok ER (cell c o) ∗ semVal (cell c o) 0))
      ⊢ (|={Set.univ}=> bigSep Finset.univ fun o : Own => iprop(atPos ER (cell c o) 0 ∅ 0 ∗ reached ER (cell c o) 0) : sProp 𝕄) :=
  update_all m K fun o => by
    iintro ⟨#HI, Ht, Hv⟩
    ihave #HI' := (inv_cell m K c o) $$ HI
    iapply (Rounds.cell_open ER (Rd m) (Set.mem_univ (K (cell c o))))
    isplitr; · iexact HI'
    isplitl [Ht] <;> iassumption

end Cert.RowMax

end
-- ==== Proof.Body.lean ====
/- One run of the kernel: from the protocol's state and the buffers it enters with to the staged result at the larger of
   its own maxima and the partner's, with every semaphore of its own, and the barrier, back at zero. -/
module

public import proofs.«01_k».proof.Proof.Cuts
public import proofs.«01_k».proof.Proof.Gen.KernelIdeal.Skeleton

@[expose] public section

noncomputable section

namespace Cert.RowMax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- What the kernel leaves in the staged result of device `c`. -/
def res (c : Dev nD) : S12x128.Idx → Elt F .f32 := k0_pay1 (part (xin m c)) (part (xin m (pr c)))

/-- What it enters with, -/
def bodyPre (K : GSem nD τ sig → ℕ) (c : Dev nD) : sProp 𝕄 :=
  iprop(opened m K c ∗ cred (tallyAt (bar c) () 1) ∗ cred (tallyAt (cell c (recvO 0)) () NH) ∗ cred (tallyAt (cell c (recvO 1)) () NH)
    ∗ levAts L lv ∗ pt c main_arg0 (xin m c) ∗ (∃ f, pt c cc0_scratch0 f) ∗ (∃ f, pt c cc0_scratch1 f) ∗ (∃ f, pt c cc0_stg0_0 f) ∗ owing c (O₀ c))
/-- and what it leaves. -/
def bodyPost (c : Dev nD) : sProp 𝕄 :=
  iprop(semVal (bar c) 0 ∗ (bigSep Finset.univ fun o : Own => semVal (cell c o) 0) ∗ pt c main_arg0 (xin m c)
    ∗ (∃ f, pt c cc0_scratch0 f) ∗ (∃ f, pt c cc0_scratch1 f) ∗ pt c cc0_stg0_0 (res m c) ∗ owing c 0)

/-- The word one, read as an integer. -/
theorem one_word : (1#32 : BitVec 32).toInt = ((1 : ℕ) : ℤ) := by decide

/-- Signalling the partner's barrier: the landing halves go with it. -/
theorem signal_step (K : GSem nD τ sig → ℕ) (c n : Dev nD) (hn : n = pr c)
    {p : PUnit → Prog (TpuEff nD τ sig (Elt F) Λ₀ .tc) PUnit} {Q : PUnit → sProp 𝕄} :
    iprop(invs m K ∗ owing c (O₀ c) ∗ dutyTok ER (bar (pr c)) 0 () ∗ barPay (pr c) ∗ reached ER (bar (pr c)) 0)
      ⊢ iprop((owing c (owe2 c) -∗ runs c (p ⟨⟩) Q) -∗ runs c (.op (.semSignal (Dev.tc n : Thread nD τ) barS ((1 : ℕ) : ℤ)) p) Q) := by
  subst hn
  unfold owing
  iintro ⟨#HI, ⟨%W, HO⟩, Ht, Hp, #Hr⟩ Hk
  ihave #HI' := (inv_bar m K (pr c)) $$ HI
  iapply (Rounds.wp_signal 𝒱₀ ER (Rd m) (c : Thread nD τ) none (dst := (pr c : Thread nD τ)) (sem := barS) (r := 0) (d := ()) (κ := K (bar (pr c)))
      (duty m _) (amount_bar m (pr c) ()) () (owe2 c) rfl) $$ [HO Ht Hp]
  · isplitr; · iexact HI'
    isplitl [HO]; · iexact HO
    isplitl [Ht]; · iexact Ht
    isplitl [Hp]; · rw [payload_bar]; iexact Hp
    iexact Hr
  iintro HO
  iapply Hk
  iexists _; iexact HO

/-- Waiting at the own barrier: the partner's landing halves arrive. -/
theorem barrier_step (K : GSem nD τ sig → ℕ) (c : Dev nD)
    {p : PUnit → Prog (TpuEff nD τ sig (Elt F) Λ₀ .tc) PUnit} {Q : PUnit → sProp 𝕄} :
    iprop(invs m K ∗ levAts L lv ∗ cred (tallyAt (bar c) () 1) ∗ owing c (owe2 c) ∗ atPos ER (bar c) 0 ∅ 0)
      ⊢ iprop((owing c (owe2 c) ∗ atPos ER (bar c) (0 + 1) ∅ 0 ∗ barPay c -∗ runs c (p ⟨⟩) Q)
          -∗ runs c (.op (.semWait barS ((1 : ℕ) : ℤ)) p) Q) := by
  unfold owing
  iintro ⟨#HI, #Hlev, Hc, ⟨%W, HO⟩, Hat⟩ Hk
  ihave #HI' := (inv_bar m K c) $$ HI
  iapply (Rounds.wp_wait_rest_token 𝒱₀ ER (Rd m) (c : Thread nD τ) none (κ := K (bar c))
      (wpE_semWait_eq 𝒱₀ (c : Thread nD τ) none Set.univ) (Set.mem_univ _) () (O := owe2 c) (W := W) (R := 0) (m := 0) (T := ∅)
      (by rw [expect_of, amount_bar, Nat.zero_add])) $$ [Hc HO Hat]
  · isplitr; · iexact HI'
    isplitl [Hc]; · iexact Hc
    isplitl [HO]; · iexact HO
    isplitr; · iapply (mayWait_of c (.reg barS) (le_refl 1) (owe2 c) (owe2_recv c)); iexact Hlev
    iexact Hat
  iintro ⟨HO, Hat, -, Hpay⟩
  ihave Hp := (Entails.of_eq ((rest_of m (bar c)).trans (payload_bar m c ()))) $$ Hpay
  iapply Hk
  isplitl [HO]; · iexists _; iexact HO
  isplitl [Hat] <;> iassumption

/-- The zero offset. -/
theorem zero_off : (![0, 0] : Fin 2 → ℕ) = fun _ => 0 := by decide

/-- The last four operations: the larger of the own maxima and the landed ones, entry by entry, over the own. -/
theorem finish_step (c : Dev nD) (f : S12x128.Idx → Elt F .f32) (g : S12x128.Idx → Elt F .f32) {hl hl' hl'' hx hm}
    {p : PUnit → Prog (TpuEff nD τ sig (Elt F) Λ₀ .tc) PUnit} {Q : PUnit → sProp 𝕄} :
    iprop(pt c cc0_stg0_0 f ∗ landBoth c (lay g))
      ⊢ iprop((pt c cc0_stg0_0 (k0_pay1 f g) ∗ landBoth c (lay g) -∗ runs c (p ⟨⟩) Q)
          -∗ runs c (.op (.load outM (Rect.unit (s := S12x128) ![0, 0] S12x128.size inb_S12x128_S12x128_0_0).toLoadRect hl) fun v =>
              .op (.load landM (Rect.unit (s := S16x128) ![0, 0] S12x128.size inb_S16x128_S12x128_0_0).toLoadRect hl') fun w =>
              .op (.load outM (Rect.unit (s := S12x128) ![0, 0] S12x128.size inb_S12x128_S12x128_0_0).toLoadRect hl'') fun _ =>
              .op (.store outM (Rect.unit (s := S12x128) ![0, 0] S12x128.size inb_S12x128_S12x128_0_0) (k0_pay1 v w) Finset.univ hx hm) p) Q) := by
  iintro ⟨Ho, Hl⟩ Hk
  iapply (wp_load 𝒱₀ (c : Thread nD τ) none Set.univ (m := outM) (S := Finset.univ) (Finset.subset_univ _)) $$ Ho
  iintro Ho
  iapply (wp_load 𝒱₀ (c : Thread nD τ) none Set.univ (m := landM) (S := landSet) land_load_subset) $$ Hl
  iintro Hl
  iapply (wp_load 𝒱₀ (c : Thread nD τ) none Set.univ (m := outM) (S := Finset.univ) (Finset.subset_univ _)) $$ Ho
  iintro Ho
  iapply (wp_store 𝒱₀ (c : Thread nD τ) none Set.univ (m := outM) (r := Rect.unit (s := S12x128) ![0, 0] S12x128.size inb_S12x128_S12x128_0_0)
    (Mk := Finset.univ) (S := (Finset.univ : Finset S12x128.Idx)) (f := f) (Finset.subset_univ _)) $$ Ho
  iintro Ho
  have e1 : outM.view.readAt (Elt F) (Rect.unit (s := S12x128) ![0, 0] S12x128.size inb_S12x128_S12x128_0_0).toLoadRect f = f :=
    Memref.readAt_unit_zero (Elt F) cc0_stg0_0 zero_off inb_S12x128_S12x128_0_0 f
  have e2 : (outM.access (Rect.unit (s := S12x128) ![0, 0] S12x128.size inb_S12x128_S12x128_0_0)).write (Elt F) f (k0_pay1 f g) Finset.univ = k0_pay1 f g :=
    Memref.write_access_unit_zero_univ (Elt F) cc0_stg0_0 zero_off inb_S12x128_S12x128_0_0 f (k0_pay1 f g)
  rw [e1, load_land, e2]
  iapply Hk
  isplitl [Ho]; · iexact Ho
  iexact Hl

set_option maxHeartbeats 4000000 in
set_option maxRecDepth 4000 in
/-- The run of the kernel. -/
theorem body_run (K : GSem nD τ sig → ℕ) (c : Dev nD) (Q : PUnit → sProp 𝕄) :
    iprop(bodyPre m K c ∗ (bodyPost m c -∗ Q ⟨⟩))
      ⊢ runs c (cc0_body (Memref.whole main_arg0) (Memref.isWhole_whole _) (win0_0.stage (cfg0.slots t0_0 0)) (hstage0_0 0)
          (Memref.whole cc0_scratch0) (Memref.isWhole_whole _) (Memref.whole cc0_scratch1) (Memref.isWhole_whole _) cc0_scratch2 cc0_scratch3 cc0_scratch4) Q := by
  simp only [cc0_body_eq_skeleton]
  unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId, one_word]
  unfold bodyPre opened
  iintro ⟨⟨⟨#HI, HatB, Hpos, #HrB, HtB, Htok⟩, HcB, HcR0, HcR1, #Hlev, Hx, Hs, ⟨%g, Hl⟩, Ho, HO⟩, Hk⟩
  ihave H := (deal m c) $$ [Hpos Htok Hx Hs Ho]
  · isplitl [Hpos]; · iexact Hpos
    isplitl [Htok]; · iexact Htok
    isplitl [Hx]; · iexact Hx
    isplitl [Hs] <;> iassumption
  rw [six]
  unfold halfFresh
  icases H with ⟨⟨Hf0, Hf1, Hf2, Hf3, Hf4, Hf5⟩, ⟨⟨HaS0, #HrS0⟩, ⟨HaR0, #HrR0⟩, HtS0, HtR0⟩, ⟨⟨HaS1, #HrS1⟩, ⟨HaR1, #HrR1⟩, HtS1, HtR1⟩⟩
  ihave Hl := (land_cut c g) $$ Hl
  icases Hl with ⟨⟨Hl0, Hl1⟩, Hlr⟩
  iapply (signal_step m K c _ (dev1_eq c)) $$ [HO HtB Hl0 Hl1]
  · isplitr; · iexact HI
    isplitl [HO]; · iexact HO
    isplitl [HtB]; · iexact HtB
    isplitl
    · unfold barPay; rw [pr_pr]
      isplitl [Hl0]; · iexists g; iexact Hl0
      isplitl [Hl1]; · iexists g; iexact Hl1
      isplitr; · iexact HrR0
      iexact HrR1
    iexact HrB
  iintro HO
  iapply (copy_step m K c 0) $$ [Hf0]
  · isplitr; · iexact HI
    iexact Hf0
  iintro Hf0
  iapply (copy_step m K c 1) $$ [Hf1]
  · isplitr; · iexact HI
    iexact Hf1
  iintro Hf1
  iapply (copy_step m K c 2) $$ [Hf2]
  · isplitr; · iexact HI
    iexact Hf2
  iintro Hf2
  iapply (copy_step m K c 3) $$ [Hf3]
  · isplitr; · iexact HI
    iexact Hf3
  iintro Hf3
  iapply (copy_step m K c 4) $$ [Hf4]
  · isplitr; · iexact HI
    iexact Hf4
  iintro Hf4
  iapply (copy_step m K c 5) $$ [Hf5]
  · isplitr; · iexact HI
    iexact Hf5
  iintro Hf5
  iapply (reduce_step m K c 0 (owe2 c) (owe2_recv c)) $$ [Hf0 HO]
  · isplitr; · iexact HI
    isplitr; · iexact Hlev
    isplitl [Hf0] <;> iassumption
  iintro ⟨Hr0, HO⟩
  iapply (reduce_step m K c 1 (owe2 c) (owe2_recv c)) $$ [Hf1 HO]
  · isplitr; · iexact HI
    isplitr; · iexact Hlev
    isplitl [Hf1] <;> iassumption
  iintro ⟨Hr1, HO⟩
  iapply (reduce_step m K c 2 (owe2 c) (owe2_recv c)) $$ [Hf2 HO]
  · isplitr; · iexact HI
    isplitr; · iexact Hlev
    isplitl [Hf2] <;> iassumption
  iintro ⟨Hr2, HO⟩
  iapply (barrier_step m K c) $$ [HcB HO HatB]
  · isplitr; · iexact HI
    isplitr; · iexact Hlev
    isplitl [HcB]; · iexact HcB
    isplitl [HO] <;> iassumption
  unfold barPay
  iintro ⟨HO, HatB, HP0, HP1, #HrP0, #HrP1⟩
  unfold reduced
  icases Hr0 with ⟨Hu0, Ho0⟩
  icases Hr1 with ⟨Hu1, Ho1⟩
  icases Hr2 with ⟨Hu2, Ho2⟩
  iapply (send_step m K c _ (dev2_eq c) 0 (owe2 c) (owe1 c) rfl) $$ [Ho0 Ho1 Ho2 HP0 HO HtS0 HtR0]
  · isplitr; · iexact HI
    isplitl [Ho0 Ho1 Ho2]
    · rw [half0]
      isplitl [Ho0]; · iexact Ho0
      isplitl [Ho1] <;> iassumption
    isplitl [HP0]; · iexact HP0
    isplitl [HO]; · iexact HO
    isplitl [HtS0]; · iexact HtS0
    isplitr; · iexact HrS0
    isplitl [HtR0]; · iexact HtR0
    iexact HrP0
  iintro ⟨HcS0, HO⟩
  iapply (reduce_step m K c 3 (owe1 c) (owe1_recv c)) $$ [Hf3 HO]
  · isplitr; · iexact HI
    isplitr; · iexact Hlev
    isplitl [Hf3] <;> iassumption
  iintro ⟨Hr3, HO⟩
  iapply (reduce_step m K c 4 (owe1 c) (owe1_recv c)) $$ [Hf4 HO]
  · isplitr; · iexact HI
    isplitr; · iexact Hlev
    isplitl [Hf4] <;> iassumption
  iintro ⟨Hr4, HO⟩
  iapply (reduce_step m K c 5 (owe1 c) (owe1_recv c)) $$ [Hf5 HO]
  · isplitr; · iexact HI
    isplitr; · iexact Hlev
    isplitl [Hf5] <;> iassumption
  iintro ⟨Hr5, HO⟩
  unfold reduced
  icases Hr3 with ⟨Hu3, Ho3⟩
  icases Hr4 with ⟨Hu4, Ho4⟩
  icases Hr5 with ⟨Hu5, Ho5⟩
  iapply (send_step m K c _ (dev3_eq c) 1 (owe1 c) (0) (zero_add _).symm) $$ [Ho3 Ho4 Ho5 HP1 HO HtS1 HtR1]
  · isplitr; · iexact HI
    isplitl [Ho3 Ho4 Ho5]
    · rw [half1]
      isplitl [Ho3]; · iexact Ho3
      isplitl [Ho4] <;> iassumption
    isplitl [HP1]; · iexact HP1
    isplitl [HO]; · iexact HO
    isplitl [HtS1]; · iexact HtS1
    isplitr; · iexact HrS1
    isplitl [HtR1]; · iexact HtR1
    iexact HrP1
  iintro ⟨HcS1, HO⟩
  iapply (take_step m K c (sendO 0) (src := landP 0) (dst := halfP 0) (amount_send m c 0 ()).symm) $$ [HcS0 HaS0 HO]
  · isplitr; · iexact HI
    isplitl [HcS0]; · iexact HcS0
    isplitl [HaS0] <;> iassumption
  iintro ⟨HaS0, Ho0, HO⟩
  ihave Ho0 := (Entails.of_eq (payload_send m c 0 ())) $$ Ho0
  iapply (take_step m K c (recvO 0) (src := halfP 0) (dst := landP 0) (amount_recv m c 0 ()).symm) $$ [HcR0 HaR0 HO]
  · isplitr; · iexact HI
    isplitl [HcR0]; · iexact HcR0
    isplitl [HaR0] <;> iassumption
  iintro ⟨HaR0, Hl0, HO⟩
  ihave Hl0 := (Entails.of_eq (payload_recv m c 0 ())) $$ Hl0
  iapply (take_step m K c (sendO 1) (src := landP 1) (dst := halfP 1) (amount_send m c 1 ()).symm) $$ [HcS1 HaS1 HO]
  · isplitr; · iexact HI
    isplitl [HcS1]; · iexact HcS1
    isplitl [HaS1] <;> iassumption
  iintro ⟨HaS1, Ho1, HO⟩
  ihave Ho1 := (Entails.of_eq (payload_send m c 1 ())) $$ Ho1
  iapply (take_step m K c (recvO 1) (src := halfP 1) (dst := landP 1) (amount_recv m c 1 ()).symm) $$ [HcR1 HaR1 HO]
  · isplitr; · iexact HI
    isplitl [HcR1]; · iexact HcR1
    isplitl [HaR1] <;> iassumption
  iintro ⟨HaR1, Hl1, HO⟩
  ihave Hl1 := (Entails.of_eq (payload_recv m c 1 ())) $$ Hl1
  unfold sendPay recvPay
  ihave Ho := (Entails.of_eq (out_halves m c).symm) $$ [Ho0 Ho1]
  · isplitl [Ho0] <;> iassumption
  ihave Hl := (Entails.of_eq (land_halves c (lay (part (xin m (pr c))))).symm) $$ [Hl0 Hl1]
  · isplitl [Hl0] <;> iassumption
  iapply (finish_step c (part (xin m c)) (part (xin m (pr c)))) $$ [Ho Hl]
  · isplitl [Ho] <;> iassumption
  iintro ⟨Ho, Hl⟩
  ihave Hl := (land_join c g (lay (part (xin m (pr c))))) $$ [Hl Hlr]
  · isplitl [Hl] <;> iassumption
  ihave Hu := (gather m c) $$ [Hu0 Hu1 Hu2 Hu3 Hu4 Hu5]
  · rw [six]
    isplitl [Hu0]; · iexact Hu0
    isplitl [Hu1]; · iexact Hu1
    isplitl [Hu2]; · iexact Hu2
    isplitl [Hu3]; · iexact Hu3
    isplitl [Hu4] <;> iassumption
  icases Hu with ⟨HaC, Hx, Hs⟩
  unfold runs
  rw [wp_ret]
  ihave #HIb := (inv_bar m K c) $$ HI
  imod (close m (K (bar c)) (bar c)) $$ [HatB] with HvB
  · isplitr; · iexact HIb
    iexact HatB
  imod (close_all m K c) $$ [HaC HaS0 HaS1 HaR0 HaR1] with Hv
  · isplitr; · iexact HI
    rw [own_sum, two, two]
    isplitl [HaC]; · iexact HaC
    isplitl [HaS0 HaS1]
    · isplitl [HaS0] <;> iassumption
    isplitl [HaR0] <;> iassumption
  imodintro
  iapply Hk
  unfold bodyPost res
  isplitl [HvB]; · iexact HvB
  isplitl [Hv]; · iexact Hv
  isplitl [Hx]; · iexact Hx
  isplitl [Hs]; · iexact Hs
  isplitl [Hl]; · iexact Hl
  isplitl [Ho]; · iexact Ho
  iexact HO

end Cert.RowMax

end
-- ==== Proof.Region.lean ====
/- The kernel's region of the program: what is held around it, the proof data of its one staged result, and the region as
   the launch theorem takes it. -/
module

public import proofs.«01_k».proof.Proof.Body
public import proofs.«01_k».proof.Proof.Gen.KernelIdeal.Frame
public import Idealize.ShloMosaic.Lib.Pipeline.RegionTalk
public import Idealize.ShloMosaic.Lib.Pipeline.ValueKit

@[expose] public section

noncomputable section

namespace Cert.RowMax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What the unscoped buffers hold -/

/-- The unscoped buffers of device `c` at launch, -/
def V₀ (c : Dev nD) : Valuation τ sig (Elt F) := fun b => m (c, b)
/-- once the kernel's result is written back, -/
def V₁ (c : Dev nD) : Valuation τ sig (Elt F) := Function.update (V₀ m c) (Proc.devRef .tc main_v1) (res m c)
/-- and after the reshape. -/
def V₂ (c : Dev nD) : Valuation τ sig (Elt F) := StableHlo.after hostOps1 (V₁ m c)

/-- The input is unchanged by the kernel, -/
theorem V₁_arg (c : Dev nD) : V₁ m c (Proc.devRef .tc main_arg0) = xin m c :=
  Function.update_of_ne (by decide) _ _
/-- and so is the final array; -/
theorem V₁_out (c : Dev nD) : V₁ m c (Proc.devRef .tc main_v2) = V₀ m c (Proc.devRef .tc main_v2) :=
  Function.update_of_ne (by decide) _ _
/-- the kernel's array holds its result. -/
theorem V₁_res (c : Dev nD) : V₁ m c (Proc.devRef .tc main_v1) = res m c := Function.update_self _ _ _

/-- The input, as a set of buffers; -/
abbrev argS : Finset (DevRef τ sig) := {Proc.devRef .tc main_arg0}
/-- the buffers besides the kernel's array; -/
abbrev restS : Finset (DevRef τ sig) := {Proc.devRef .tc main_arg0, Proc.devRef .tc main_v2}
/-- all that outlive the kernel. -/
def bufs : Finset (DevRef τ sig) := (StableHlo.tcRefs τ sig).filter fun b => ¬ b.isScoped

/-- The launch hands over exactly these. -/
theorem held_bufs (c : Dev nD) (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl

/-- The input held, -/
theorem held_arg (c : Dev nD) (W : Valuation τ sig (Elt F)) :
    (StableHlo.held (c : Thread nD τ) argS W : sProp 𝕄) = pt c main_arg0 (W (Proc.devRef .tc main_arg0)) := by
  unfold StableHlo.held
  rw [bigSep_eq_bigSepL_of_eq [Proc.devRef .tc main_arg0] (by decide) (by decide)]
  rfl
/-- the input and the final array held, -/
theorem held_rest (c : Dev nD) (W : Valuation τ sig (Elt F)) : (StableHlo.held (c : Thread nD τ) restS W : sProp 𝕄)
    = iprop(pt c main_arg0 (W (Proc.devRef .tc main_arg0)) ∗ pt c main_v2 (W (Proc.devRef .tc main_v2))) := by
  unfold StableHlo.held
  rw [bigSep_eq_bigSepL_of_eq [Proc.devRef .tc main_arg0, Proc.devRef .tc main_v2] (by decide) (by decide)]
  rfl
/-- all three held, -/
theorem held_all (c : Dev nD) (W : Valuation τ sig (Elt F)) : (StableHlo.held (c : Thread nD τ) bufs W : sProp 𝕄)
    = iprop(pt c main_v1 (W (Proc.devRef .tc main_v1)) ∗ pt c main_arg0 (W (Proc.devRef .tc main_arg0)) ∗ pt c main_v2 (W (Proc.devRef .tc main_v2))) := by
  unfold StableHlo.held
  rw [bigSep_eq_bigSepL_of_eq [Proc.devRef .tc main_v1, Proc.devRef .tc main_arg0, Proc.devRef .tc main_v2] (by decide) (by decide)]
  rfl
/-- and the kernel's array held. -/
theorem held_arr (c : Dev nD) (W : Valuation τ sig (Elt F)) :
    (StableHlo.held (c : Thread nD τ) (Pipeline.arrRefs (τ := τ) (pcfgs (F := F) 0).spec) W : sProp 𝕄) = pt c main_v1 (W (Proc.devRef .tc main_v1)) := by
  have e : Pipeline.arrRefs (τ := τ) (pcfgs (F := F) 0).spec = {Proc.devRef .tc main_v1} := by
    show Pipeline.arrRefs (τ := τ) spec0 = _
    decide
  rw [e]
  unfold StableHlo.held
  rw [bigSep_eq_bigSepL_of_eq [Proc.devRef .tc main_v1] (by decide) (by decide)]
  rfl

/-! ## The proof data -/

/-- The two scratch buffers, at some contents. -/
def scratch (c : Dev nD) : sProp 𝕄 := iprop((∃ f, pt c cc0_scratch0 f) ∗ ∃ f, pt c cc0_scratch1 f)

/-- The kernel's scoped buffers are the two scratch buffers. -/
theorem scratch_eq (c : Dev nD) : (Pipeline.scopedRest (Ix := Unit) (Name := ℕ) (U := UU) (Lvl := ℕ) (Val := Elt F) spec0 c : sProp 𝕄) = scratch c :=
  scopedRest0_eq c

/-- The kernel's scoped counters are the own semaphores'. -/
theorem ownSems_eq (c : Dev nD) : (Pipeline.ownSems0 osem c : sProp 𝕄) = bigSep Finset.univ fun o : Own => semVal (cell c o) 0 := rfl

/-- What the protocol brings to the kernel: its state from launch and, the own cells open, what the kernel starts with. -/
def Tk (c : Dev nD) : sProp 𝕄 := start m c
/-- With the own cells open. -/
def Xk (c : Dev nD) : sProp 𝕄 :=
  iprop((∃ K, opened m K c) ∗ cred (tallyAt (bar c) () 1) ∗ cred (tallyAt (cell c (recvO 0)) () NH) ∗ cred (tallyAt (cell c (recvO 1)) () NH) ∗ levAts L lv)
/-- What the protocol gives back: the barrier, at zero. -/
def Yk (c : Dev nD) : sProp 𝕄 := semVal (bar c) 0

/-- The region's data: one staged result, left at `res`; before the point the kernel's entry state, after it its exit state. -/
def dat (c : Dev nD) : Dat τ (Elt F) Unit ℕ UU ℕ cfg0 c where
  A := fun w => V₀ m c (Proc.devRef .tc (Pipeline.arrRef spec0 w))
  after := fun | 0 => fun _ => res m c | ⟨_ + 1, h⟩ => absurd h (Nat.not_lt.2 (Nat.le_add_left _ _))
  Φ t := if t.val = 0 then iprop(Xk m c ∗ pt c main_arg0 (xin m c) ∗ scratch c ∗ ∃ r, prngReg c r)
    else iprop(Yk c ∗ (bigSep Finset.univ fun o : Own => semVal (cell c o) 0) ∗ pt c main_arg0 (xin m c) ∗ scratch c ∗ ∃ r, prngReg c r)
  q _ := fullShare
  owed t := if t.val = 0 then O₀ c else 0

/-- No table to choose. -/
abbrev adm : (p : Fin 1) → (pcfgs (F := F) p).Adm := fun p => (cfgs p).toPCfg_adm
/-- The program's one pipeline, at that data. -/
def pdats : (p : Fin 1) → (c : Dev nD) → Dat τ (Elt F) Unit ℕ UU ℕ (Pipeline.pin (pcfgs (F := F)) adm p) c
  | 0 => dat m

/-- What is owed on entry, -/
theorem owed_zero (c : Dev nD) : (pdats (F := F) m 0 c).owed 0 = O₀ c := by
  show (if ((0 : Fin (cfg0.N + 1)).val = 0) then O₀ c else 0) = O₀ c; exact if_pos rfl
/-- at the one point, -/
theorem owed_first (c : Dev nD) : (dat (F := F) m c).owed (t0_0 : Fin cfg0.N).castSucc = O₀ c := by
  show (if ((t0_0 : Fin cfg0.N).castSucc : Fin (cfg0.N + 1)).val = 0 then O₀ c else 0) = O₀ c; exact if_pos rfl
/-- at the end, -/
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]
/-- and after the point. -/
theorem owed_after (c : Dev nD) : (dat (F := F) m c).owed (t0_0 : Fin cfg0.N).succ = 0 := by
  show (if ((t0_0 : Fin cfg0.N).succ : Fin (cfg0.N + 1)).val = 0 then O₀ c else 0) = 0; exact if_neg (Nat.succ_ne_zero _)

/-- What is owed, read from the data, -/
theorem owes_in (c : Dev nD) (t : Fin (cfg0.N + 1)) (O : CellTallies nD τ sig Unit) (h : (dat m c).owed t = O) :
    ((dat m c).owesAt () t : sProp 𝕄) ⊢ owing c O := by
  unfold Dat.owesAt Pipeline.owesWithin owing; rw [h]
  iintro ⟨%W, -, HO⟩; iexists W; iexact HO
/-- and given back to it. -/
theorem owes_out (c : Dev nD) (t : Fin (cfg0.N + 1)) (O : CellTallies nD τ sig Unit) (h : (dat m c).owed t = O) :
    owing c O ⊢ ((dat m c).owesAt () t : sProp 𝕄) := by
  unfold Dat.owesAt Pipeline.owesWithin Dat.bound owing; rw [h, show (dat m c).recorded t = Set.univ from rfl]
  iintro ⟨%W, HO⟩; iexists W; isplitr; · ipureintro; exact fun _ _ => Or.inl trivial
  iexact HO

/-- The staged result's buffer, owned whole at contents `X`. -/
theorem owns_stage (c : Dev nD) (X : S12x128.Idx → Elt F .f32) : (owns (c : Thread nD τ) (Memref.whole cc0_stg0_0) fullShare X : sProp 𝕄) = pt c cc0_stg0_0 X :=
  owns_whole (c : Thread nD τ) cc0_stg0_0 fullShare X

/-- The region's state before its one point, and after it. -/
theorem state_before (c : Dev nD) (t : Fin (cfg0.N + 1)) (h : t.val = 0) :
    (dat m c).Φ t = iprop(Xk m c ∗ pt c main_arg0 (xin m c) ∗ scratch c ∗ ∃ r, prngReg c r) := if_pos h
/-- The state after the point. -/
theorem state_after (c : Dev nD) (t : Fin (cfg0.N + 1)) (h : t.val ≠ 0) :
    (dat m c).Φ t = iprop(Yk c ∗ (bigSep Finset.univ fun o : Own => semVal (cell c o) 0) ∗ pt c main_arg0 (xin m c) ∗ scratch c ∗ ∃ r, prngReg c r) := if_neg h
/-- The last place is not the first. -/
theorem last_ne : (Fin.last cfg0.N).val ≠ 0 := by
  rw [Fin.val_last, show cfg0.N = 1 from N_0]; decide

set_option maxRecDepth 4000 in
/-- The kernel keeps the region's data. -/
theorem body_ok (c : Dev nD) : BodyObligation (dat (F := F) m c) defs₀ 𝒱₀ () Set.univ := fun t => by
  rw [fin_N0 t]
  rw [bigSep_W0, bigSep_W0]
  show iprop((dat m c).Φ (t0_0 : Fin cfg0.N).castSucc ∗ (dat m c).owesAt () (t0_0 : Fin cfg0.N).castSucc
      ∗ ∃ d, owns (c : Thread nD τ) (Memref.whole cc0_stg0_0) fullShare ((dat m c).before 0 (t0_0 : Fin cfg0.N) d))
    ⊢ runs c (bodyAt0 (t0_0 : Fin cfg0.N)) fun _ => iprop((dat m c).Φ (t0_0 : Fin cfg0.N).succ ∗ (dat m c).owesAt () (t0_0 : Fin cfg0.N).succ
      ∗ owns (c : Thread nD τ) (Memref.whole cc0_stg0_0) fullShare (res m c))
  rw [state_before m c _ rfl, state_after m c _ (Nat.succ_ne_zero _)]
  simp only [owns_stage]
  unfold Xk scratch Yk
  iintro ⟨⟨⟨⟨%K, Hg⟩, HcB, HcR0, HcR1, Hlev⟩, Hx, ⟨Hs, Hl⟩, Hp⟩, HO, ⟨%d, Ho⟩⟩
  ihave HO := (owes_in m c _ (O₀ c) (owed_first m c)) $$ HO
  iapply (body_run m K c _)
  isplitr [Hp]
  · unfold bodyPre
    isplitl [Hg]; · iexact Hg
    isplitl [HcB]; · iexact HcB
    isplitl [HcR0]; · iexact HcR0
    isplitl [HcR1]; · iexact HcR1
    isplitl [Hlev]; · iexact Hlev
    isplitl [Hx]; · iexact Hx
    isplitl [Hs]; · iexact Hs
    isplitl [Hl]; · iexact Hl
    isplitl [Ho]; · iexists _; iexact Ho
    iexact HO
  unfold bodyPost
  iintro ⟨HvB, Hv, Hx, Hs, Hl, Ho, HO⟩
  isplitr [HO Ho]
  · isplitl [HvB]; · iexact HvB
    isplitl [Hv]; · iexact Hv
    isplitl [Hx]; · iexact Hx
    isplitl [Hs Hl]
    · isplitl [Hs] <;> iassumption
    iexact Hp
  isplitl [HO]
  · iapply (owes_out m c _ 0 (owed_after m c)); iexact HO
  iexact Ho

/-! ## The region -/

local notation "ℝ𝕊" => Pipeline.RegionSeg (pcfgs (F := F)) adm (pdats m) () defs₀ 𝒱₀ L lv

/-- The kernel's own cells opened on the counters the region hands over. -/
theorem enter (c : Dev nD) : iprop(Tk m c ∗ Pipeline.ownSems0 osem c ∗ levAts L lv) ⊢ (|={Set.univ}=> Xk m c : sProp 𝕄) := by
  rw [ownSems_eq]
  unfold Tk Xk start ghost opened
  iintro ⟨⟨⟨%K, #HI, HatB, Hopen, #HrB, HtB, Htok⟩, HcB, HcR0, HcR1⟩, Hv, Hlev⟩
  imod (open_all m K c) $$ [Hopen Hv] with Hpos
  · isplitr; · iexact HI
    rw [bigSep_sep']
    isplitl [Hopen] <;> iassumption
  imodintro
  isplitl [HatB Hpos HtB Htok]
  · iexists K
    isplitr; · iexact HI
    isplitl [HatB]; · iexact HatB
    isplitl [Hpos]; · iexact Hpos
    isplitr; · iexact HrB
    isplitl [HtB] <;> iassumption
  isplitl [HcB]; · iexact HcB
  isplitl [HcR0]; · iexact HcR0
  isplitl [HcR1] <;> iassumption

/-- The facts of the launch, as the region takes them. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What the device owes at the start is owed on barrier and receiving cells. -/
theorem O₀_cells {c : Dev nD} {g : GSem nD τ sig} {u : Unit} (h : 0 < O₀ c g u) : g = bar (pr c) ∨ ∃ h, g = cell (pr c) (recvO h) := by
  unfold O₀ at h
  rw [Pi.add_apply, Finsupp.add_apply] at h
  rcases Nat.add_pos_iff_pos_or_pos.mp h with h | h
  · exact .inr (owe2_recv c g u h)
  · rw [tallyAt_apply] at h
    split at h
    · next hg => exact .inl hg.1
    · exact absurd h (Nat.lt_irrefl 0)

/-- All of it above the staging's level. -/
theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_cells h with rfl | ⟨k, rfl⟩
    · exact ⟨by rw [L_tc]; exact Finset.mem_singleton_self _, Nat.zero_lt_one⟩
    · exact ⟨by rw [L_tc]; exact Finset.mem_singleton_self _, by rw [lv_recv]; decide⟩
  · exact absurd h (Nat.lt_irrefl 0)

/-- Into the region, -/
theorem region_in (c : Dev nD) : iprop(Pipeline.scopedRest (Pipeline.pin (pcfgs (F := F)) adm 0).spec c ∗ (∃ r, prngReg c r)
      ∗ StableHlo.held (c.tc : Thread nD τ) argS (V₀ m c) ∗ Xk m c) ⊢ (pdats m 0 c).Φ 0 := by
  rw [show (pdats m 0 c).Φ 0 = iprop(Xk m c ∗ pt c main_arg0 (xin m c) ∗ scratch c ∗ ∃ r, prngReg c r) from state_before m c 0 rfl,
    show (Pipeline.scopedRest (Pipeline.pin (pcfgs (F := F)) adm 0).spec c : sProp 𝕄) = scratch c from scratch_eq c, held_arg]
  iintro ⟨Hs, Hp, Hx, HX⟩
  isplitl [HX]; · iexact HX
  isplitl [Hx]; · iexact Hx
  isplitl [Hs] <;> iassumption

/-- and out of it. -/
theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) argS (V₁ m c) ∗ Pipeline.ownSems0 osem c ∗ Yk c) := by
  rw [show (pdats m 0 c).Φ (Fin.last _) = _ from state_after m c (Fin.last _) last_ne,
    show (Pipeline.scopedRest (Pipeline.pin (pcfgs (F := F)) adm 0).spec c : sProp 𝕄) = scratch c from scratch_eq c, held_arg, V₁_arg, ownSems_eq]
  iintro ⟨HY, Hv, Hx, Hs, Hp⟩
  isplitl [Hs]; · iexact Hs
  isplitl [Hp]; · iexact Hp
  isplitl [Hx]; · iexact Hx
  isplitl [Hv] <;> iassumption

/-- The one write-back covers the result's array. -/
theorem arr_after (c : Dev nD) (w : Fin (Pipeline.pin (pcfgs (F := F)) adm 0).W) :
    (pdats m 0 c).arrAt w (Pipeline.pin (pcfgs (F := F)) adm 0).N = V₁ m c (Proc.devRef .tc (Pipeline.arrRef (Pipeline.pin (pcfgs (F := F)) adm 0).spec w)) := by
  obtain rfl : w = 0 := Subsingleton.elim (α := Fin 1) _ _
  refine (Dat.arrAt_eq_of_after_last (dat m c) 0 (t0_0 : Fin cfg0.N) (by decide +kernel) (res m c) fun j => ?_).trans (V₁_res m c).symm
  rfl

/-- The result is held whole. -/
theorem share_full (c : Dev nD) (w : Fin (Pipeline.pin (pcfgs (F := F)) adm 0).W) : (pdats m 0 c).share w = fullShare := by
  obtain rfl : w = 0 := Subsingleton.elim (α := Fin 1) _ _
  rfl

/-- The staging semaphore is at the lowest level. -/
theorem stage_low (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) () ≤ 0 := by
  obtain rfl : w = 0 := Subsingleton.elim (α := Fin 1) _ _
  exact (show ∀ s : Fin 1, lv ((c : Thread nD τ), .dma (win0_0.sem s)) () ≤ 0 from fun s => by
    obtain rfl : s = 0 := Subsingleton.elim _ _
    exact le_refl 0) s

set_option backward.isDefEq.respectTransparency.types false in
/-- The kernel's region, as the launch theorem takes it. -/
def reg : ℝ𝕊 0 :=
  Pipeline.RegionSeg.ofTalk (pcfgs (F := F)) adm (pdats m) () defs₀ 𝒱₀ L lv 0 osem (by decide : Pipeline.OwnSemFacts spec0 osem)
    argS restS (by decide) kit rfl (fun c => (body_ok m c).loose)
    (fun _ => 0) O₀ (fun c => (owed_zero m c).trans (zero_add _).symm) (owed_last m) (fun _ => rfl) (share_full m)
    (V₀ m) (V₁ m) (fun c b hb => by
      have : b = Proc.devRef .tc main_v2 := by
        rw [show restS \ argS = {Proc.devRef .tc main_v2} from by decide] at hb
        exact Finset.mem_singleton.mp hb
      subst this
      exact V₁_out m c)
    (Tk m) Yk (Xk m) Yk (enter m) (region_in m) (region_out m)
    (fun c => by iintro H; imodintro; iexact H)
    (fun _ => 0)
    ⟨fun c _ _ => by rw [L_tc]; exact Finset.mem_singleton_self _, fun c w s => stage_low c w s, fun c t g i h => owed_above m c t g i h⟩
    (fun _ => iprop(emp))
    (fun _ _ => rfl) (arr_after m)

end Cert.RowMax

end
-- ==== Proof.Run.lean ====
/- The run of the program: the launch deals every semaphore's invariant and every duty, and the region and the reshape are
   run one after the other. -/
module

public import proofs.«01_k».proof.Proof.Region

@[expose] public section

noncomputable section

namespace Cert.RowMax

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

/-- What a device holds at launch, after the region, and at the end. -/
def T₀ (c : Dev nD) : sProp 𝕄 := iprop(StableHlo.held (c : Thread nD τ) bufs (V₀ m c) ∗ start m c ∗ (∃ r, prngReg c r) ∗ owing c (O₀ c))
/-- Beside the buffers, after the region. -/
def T₁ (c : Dev nD) : sProp 𝕄 := iprop(semVal (bar c) 0 ∗ owing c 0)

/-- The reshape, run on the buffers held. -/
def host : Pipeline.HostSeg (Ix := Unit) (Name := ℕ) (U := UU) (Lvl := ℕ) (pcfgs (F := F)) defs₀ 𝒱₀ L lv :=
  Pipeline.HostSeg.ofOps _ _ _ _ _ bufs hostOps1 (fun op h => by
      simp only [List.mem_singleton] at h; subst h
      show ({Proc.devRef .tc main_v1, Proc.devRef .tc main_v2} : Finset (DevRef τ sig)) ⊆ bufs; decide)
    (List.forall_iff_forall_mem.mp hostOps1_fresh) (V₁ m) (fun c => T₁ c)

/-- The launch gives what the region takes. -/
theorem reg_pre (c : Dev nD) : T₀ m c ⊢ (reg m).pre c := by
  show _ ⊢ iprop(StableHlo.held (c.tc : Thread nD τ) (Pipeline.arrRefs (τ := τ) (pcfgs (F := F) 0).spec) (V₀ m c) ∗ (∃ r, prngReg c r)
    ∗ (StableHlo.held (c.tc : Thread nD τ) restS (V₀ m c) ∗ emp) ∗ Tk m c ∗ ∃ Wd, owes (c : Thread nD τ) (0 + O₀ c) Wd)
  rw [held_arr, held_rest, zero_add]
  unfold T₀ Tk owing
  rw [held_all]
  iintro ⟨⟨Hy, Hx, Hz⟩, HT, Hp, HO⟩
  isplitl [Hy]; · iexact Hy
  isplitl [Hp]; · iexact Hp
  isplitl [Hx Hz]
  · isplitl [Hx Hz]
    · isplitl [Hx] <;> iassumption
    iempintro
  isplitl [HT] <;> iassumption

/-- The region leaves what the reshape takes. -/
theorem reg_post (c : Dev nD) : (reg m).post c ⊢ iprop(StableHlo.held (c : Thread nD τ) bufs (V₁ m c) ∗ T₁ c) := by
  show iprop(StableHlo.held (c.tc : Thread nD τ) (Pipeline.arrRefs (τ := τ) (pcfgs (F := F) 0).spec) (V₁ m c) ∗ (∃ r, prngReg c r)
    ∗ (StableHlo.held (c.tc : Thread nD τ) restS (V₁ m c) ∗ emp) ∗ Yk c ∗ ∃ Wd, owes (c : Thread nD τ) (0 : CellTallies nD τ sig Unit) Wd) ⊢ _
  rw [held_arr, held_rest, held_all]
  unfold T₁ Yk owing
  iintro ⟨Hy, -, ⟨⟨Hx, Hz⟩, -⟩, Hb, HO⟩
  isplitl [Hy Hx Hz]
  · isplitl [Hy]; · iexact Hy
    isplitl [Hx] <;> iassumption
  isplitl [Hb] <;> iassumption

/-- The program is the region and then the reshape. -/
def segs : List (Pipeline.Seg (pcfgs (F := F)) adm (pdats m) () defs₀ 𝒱₀ L lv) := [.region (reg m), .host (host m)]

/-! ## The launch -/

/-- Different devices' barriers differ, -/
theorem bar_inj : Function.Injective bar := fun _ _ h => congrArg (fun g : GSem nD τ sig => g.1.1) h
/-- different own semaphores differ, -/
theorem osem_inj : Function.Injective osem := by decide
/-- none of them is the barrier, -/
theorem osem_ne_bar : ∀ o : Own, osem o ≠ .reg barS := by decide
/-- and different devices' own semaphores differ. -/
theorem cell_inj : Function.Injective fun p : Dev nD × Own => cell p.1 p.2 := fun _ _ h =>
  Prod.ext (congrArg (fun g : GSem nD τ sig => g.1.1) h) (osem_inj (congrArg Prod.snd h))

/-- No own semaphore is a barrier. -/
theorem cells_disjoint : Disjoint barCells ownCells := by
  unfold barCells ownCells
  rw [Finset.disjoint_left]
  rintro g h₁ h₂
  obtain ⟨c, -, rfl⟩ := Finset.mem_image.mp h₁
  obtain ⟨p, -, h⟩ := Finset.mem_image.mp h₂
  exact osem_ne_bar p.2 (congrArg Prod.snd h)

/-- One duty on every semaphore of the protocol. -/
def duties : Finset (GSem nD τ sig × ℕ × Unit) := (barCells ∪ ownCells).image fun g => (g, 0, ())

/-- A product over the barriers, by device, -/
theorem over_bar (Φ : GSem nD τ sig → sProp 𝕄) : bigSep barCells Φ = bigSep Finset.univ fun c : Dev nD => Φ (bar c) :=
  bigSep_image_of_injOn bar_inj.injOn Φ
/-- over the own semaphores, by device and kind, -/
theorem over_own (Φ : GSem nD τ sig → sProp 𝕄) : bigSep ownCells Φ = bigSep Finset.univ fun c : Dev nD => bigSep Finset.univ fun o : Own => Φ (cell c o) := by
  unfold ownCells
  rw [bigSep_image_of_injOn cell_inj.injOn Φ, bigSep_univ_prod]

/-- and over the duties. -/
theorem over_duties : (bigSep duties fun x => (dutyTok ER x.1 x.2.1 x.2.2 : sProp 𝕄))
    = iprop((bigSep Finset.univ fun c : Dev nD => dutyTok ER (bar c) 0 ()) ∗ bigSep Finset.univ fun c : Dev nD => bigSep Finset.univ fun o : Own => dutyTok ER (cell c o) 0 ()) := by
  unfold duties
  rw [bigSep_image_of_injOn (fun _ _ _ _ h => congrArg Prod.fst h), bigSep_union cells_disjoint, over_bar, over_own]
  rfl

/-- Dealt so that each device has the duties it pays: its partner's barrier and receiving semaphores' for its own. -/
theorem deal_duties : iprop((bigSep Finset.univ fun c : Dev nD => (dutyTok ER (bar c) 0 () : sProp 𝕄))
      ∗ bigSep Finset.univ fun c : Dev nD => bigSep Finset.univ fun o : Own => dutyTok ER (cell c o) 0 ())
    = iprop((bigSep Finset.univ fun c : Dev nD => (dutyTok ER (bar (pr c)) 0 () : sProp 𝕄))
      ∗ bigSep Finset.univ fun c : Dev nD => bigSep Finset.univ fun o : Own => dutyTok ER (payee c o) 0 ()) := by
  have e (c : Dev nD) := own_sum fun o : Own => (dutyTok ER (cell c o) 0 () : sProp 𝕄)
  have e' (c : Dev nD) := own_sum fun o : Own => (dutyTok ER (payee c o) 0 () : sProp 𝕄)
  simp only [e, e', bigSep_sep']
  rw [bigSep_univ_equiv swap (fun c : Dev nD => (dutyTok ER (bar c) 0 () : sProp 𝕄)),
    bigSep_univ_equiv swap (fun c : Dev nD => bigSep Finset.univ fun h : Fin 2 => (dutyTok ER (cell c (recvO h)) 0 () : sProp 𝕄))]
  rfl

/-! ### What the others owe a device -/

/-- A debt to a partner's semaphore is a debt to a device from its partner alone. -/
theorem owed_one (c d : Dev nD) (s s' : SemLoc sig) (n : ℕ) :
    (tallyAt ((pr d : Thread nD τ), s) () n : CellTallies nD τ sig Unit) ((c : Thread nD τ), s') () = if s' = s ∧ d = pr c then n else 0 := by
  rw [tallyAt_apply]
  refine if_congr ⟨fun ⟨h, _⟩ => ⟨congrArg Prod.snd h, ?_⟩, fun ⟨h, e⟩ => ⟨?_, rfl⟩⟩ rfl rfl
  · have e : c = pr d := congrArg (fun g : GSem nD τ sig => g.1.1) h
    rw [e, pr_pr]
  · rw [h, e, pr_pr]

/-- What device `d` owes on a semaphore of device `c`. -/
theorem owed_at (c d : Dev nD) (s : SemLoc sig) : O₀ d ((c : Thread nD τ), s) ()
    = if d = pr c then (if s = .reg barS then 1 else if s = osem (recvO 0) ∨ s = osem (recvO 1) then NH else 0) else 0 := by
  unfold O₀ owe2
  simp only [Pi.add_apply, Finsupp.add_apply, owed_one]
  have h0 : osem (recvO 0) ≠ .reg barS := by decide
  have h1 : osem (recvO 1) ≠ .reg barS := by decide
  have h2 : osem (recvO 0) ≠ osem (recvO 1) := by decide
  by_cases hd : d = pr c
  · by_cases hb : s = .reg barS
    · subst hb; simp [hd, h0.symm, h1.symm]
    · by_cases hr : s = osem (recvO 0)
      · subst hr; simp [hd, h0, h2]
      · by_cases hr' : s = osem (recvO 1)
        · subst hr'; simp [hd, h1, h2.symm]
        · simp [hd, hb, hr, hr']
  · simp [hd]

/-- The credit a device has at launch, on each semaphore. -/
theorem credit_at (c : Dev nD) (s : SemLoc sig) (n : ℕ) (h : (if s = .reg barS then 1 else if s = osem (recvO 0) ∨ s = osem (recvO 1) then NH else 0) = n) :
    tallyOn ((c : Thread nD τ), s) (launchCredit (Pipeline.owing O₀) 0 ((c : Thread nD τ), s)) = (tallyAt ((c : Thread nD τ), s) () n : CellTallies nD τ sig Unit) := by
  unfold tallyAt
  refine congrArg _ (Finsupp.ext fun u => ?_)
  cases u
  rw [Pipeline.launchCredit_owing, Finsupp.single_eq_same, Finset.sum_congr rfl fun d _ => owed_at c d s, h, Finset.sum_ite_eq' Finset.univ (pr c) fun _ => n,
    if_pos (Finset.mem_univ _)]

/-- So a device starts with the credits it waits with. -/
theorem credits (c : Dev nD) : (Pipeline.launchCred O₀ c : sProp 𝕄)
    ⊢ iprop(cred (tallyAt (bar c) () 1) ∗ cred (tallyAt (cell c (recvO 0)) () NH) ∗ cred (tallyAt (cell c (recvO 1)) () NH)) := by
  unfold Pipeline.launchCred
  rw [bigSep_univ_at _ (SemLoc.reg barS), credit_at c _ 1 (if_pos rfl)]
  refine sep_mono_right ?_
  rw [BI.bigSep_erase (show osem (recvO 0) ∈ Finset.univ.erase (SemLoc.reg barS) from by decide), credit_at c (osem (recvO 0)) NH ((if_neg (by decide)).trans (if_pos (Or.inl rfl)))]
  refine sep_mono_right ?_
  rw [← credit_at c (osem (recvO 1)) NH ((if_neg (by decide)).trans (if_pos (Or.inr rfl)))]
  exact bigSep_elim (by decide)

/-! ### The first step -/

/-- The element of the algebra at launch. -/
def u₀ : UU :=
  (initOf (Pipeline.cells (Pipeline.pin (pcfgs (F := F)) adm) cellOf_inj) (Pipeline.launchToks (Pipeline.pin (pcfgs (F := F)) adm) cellOf_inj),
    launchOf barCells ownCells duties)

/-- All of the protocol's part, on device 0 until it is dealt. -/
def G (c : Dev nD) : sProp 𝕄 := if c = 0 then BI.own (ER (launchOf barCells ownCells duties)) else iprop(emp)

/-- All of it, over the devices. -/
theorem G_all : bigSep Finset.univ G = (BI.own (ER (launchOf barCells ownCells duties)) : sProp 𝕄) := by
  rw [bigSep_univ_at _ (0 : Dev nD), bigSep_congr (s := Finset.univ.erase (0 : Dev nD)) (Φ := G) (Ψ := fun _ => (BI.emp : sProp 𝕄))
    fun c hc => if_neg (Finset.ne_of_mem_erase hc), BI.bigSep_emp_const]
  unfold G
  rw [if_pos rfl]
  exact BI.equiv_iff.mp sep_emp

/-- What every device may read of the protocol at launch. -/
def shared (K : GSem nD τ sig → ℕ) : sProp 𝕄 := iprop(invs m K ∗ bigSep barCells fun g => reached ER g 0)

/-- It may be read any number of times. -/
instance shared_persistent (K : GSem nD τ sig → ℕ) : BI.Persistent (shared m K) := by unfold shared; infer_instance

/-- What one device alone is given of it. -/
def mine (c : Dev nD) : sProp 𝕄 :=
  iprop(atPos ER (bar c) 0 ∅ 0 ∗ (bigSep Finset.univ fun o : Own => openTok ER (cell c o))
    ∗ dutyTok ER (bar (pr c)) 0 () ∗ bigSep Finset.univ fun o : Own => dutyTok ER (payee c o) 0 ())

/-- Every barrier is in its first round. -/
theorem reached_bar (c : Dev nD) : (bigSep barCells fun g => (reached ER g 0 : sProp 𝕄)) ⊢ reached ER (bar c) 0 :=
  bigSep_elim (Finset.mem_image_of_mem bar (Finset.mem_univ c))

/-- With what is shared, a device's own part is what the protocol starts from, -/
theorem ghost_of (K : GSem nD τ sig → ℕ) (c : Dev nD) : iprop(shared m K ∗ mine c) ⊢ ghost m K c := by
  unfold shared mine ghost
  iintro ⟨⟨#HI, #HR⟩, Ha, Ho, Hb, Hd⟩
  isplitr; · iexact HI
  isplitl [Ha]; · iexact Ha
  isplitl [Ho]; · iexact Ho
  isplitr
  · iapply (reached_bar (F := F) (pr c)); iexact HR
  isplitl [Hb] <;> iassumption

/-- The rest of what a device has at launch. -/
def rest (c : Dev nD) : sProp 𝕄 :=
  iprop(StableHlo.held (c : Thread nD τ) bufs (V₀ m c) ∗ (cred (tallyAt (bar c) () 1) ∗ cred (tallyAt (cell c (recvO 0)) () NH) ∗ cred (tallyAt (cell c (recvO 1)) () NH))
    ∗ (∃ r, prngReg c r) ∗ owing c (O₀ c))

/-- and with the rest what the device starts from. -/
theorem start_of (K : GSem nD τ sig → ℕ) (c : Dev nD) : iprop(shared m K ∗ (mine c ∗ rest m c)) ⊢ T₀ m c := by
  unfold rest T₀ start
  iintro ⟨#HS, Hm, Hh, Hc, Hp, HO⟩
  isplitl [Hh]; · iexact Hh
  isplitl [Hm Hc]
  · isplitl [Hm]
    · iexists K
      iapply (ghost_of m K c)
      isplitr; · iexact HS
      iexact Hm
    iexact Hc
  isplitl [Hp] <;> iassumption

/-- What the launch gives one device. -/
def given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

/-- The one counter that outlives the kernel is the barrier. -/
theorem unscopedSems_eq (c : Dev nD) : (unscopedSems0 c : sProp 𝕄) = semVal (bar c) 0 := by
  unfold unscopedSems0
  rw [show (Finset.univ.filter fun sm : SemLoc sig => ¬ sm.isScoped .tc) = {SemLoc.reg barS} from by decide, BI.bigSep_singleton]

/-- It is the rest, the barrier's counter and the device's part of the protocol; -/
theorem given_split (c : Dev nD) : given m ρ c ⊢ iprop(rest m c ∗ (semVal (bar c) 0 ∗ G c)) := by
  unfold given rest owing
  rw [show (unscopedBufs c (fun b => m ((c : Thread nD τ).loc b)) : sProp 𝕄) = StableHlo.held (c : Thread nD τ) bufs (V₀ m c) from held_bufs c (V₀ m c),
    unscopedSems_eq]
  iintro ⟨Hh, Hv, HO, Hc, Hp, HG⟩
  ihave Hc := (credits (F := F) c) $$ Hc
  isplitl [Hh HO Hc Hp]
  · isplitl [Hh]; · iexact Hh
    isplitl [Hc]; · iexact Hc
    isplitl [Hp]
    · iexists (ρ c); iexact Hp
    iexists ∅; iexact HO
  isplitl [Hv] <;> iassumption

/-- and over all devices. -/
theorem given_all : bigSep Finset.univ (given m ρ)
    ⊢ iprop(bigSep Finset.univ (rest m) ∗ (bigSep barCells fun g => semVal g 0) ∗ BI.own (ER (launchOf barCells ownCells duties))) := by
  refine (bigSep_mono fun c _ => given_split m ρ c).trans ?_
  rw [bigSep_sep', bigSep_sep', over_bar, ← G_all]
  exact BI.Entails.refl _

/-- The positions, opening rights and duties that the first step makes are every device's own part. -/
theorem mine_all : iprop((bigSep barCells fun g => (atPos ER g 0 ∅ 0 : sProp 𝕄)) ∗ (bigSep ownCells fun g => openTok ER g)
      ∗ bigSep duties fun x => dutyTok ER x.1 x.2.1 x.2.2) ⊢ bigSep Finset.univ mine := by
  unfold mine
  rw [over_bar, over_own, over_duties, deal_duties, bigSep_sep', bigSep_sep', bigSep_sep']

/-- The first step: the invariants are made and everything is dealt. -/
theorem init : iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ⊢ (_ : sProp 𝕄) from given_all m ρ) $$ H
  icases H with ⟨HB, Hv, Hu⟩
  imod (Rounds.fund_launch ER (Rd m) cells_disjoint (fun _ _ h => h) duties) $$ [Hv Hu] with ⟨%K, -, #Hinv, #Hr, Hat, Hopen, Htok⟩
  · isplitl [Hv] <;> iassumption
  imodintro
  ihave Hm := (mine_all (F := F)) $$ [Hat Hopen Htok]
  · isplitl [Hat]; · iexact Hat
    isplitl [Hopen] <;> iassumption
  iapply (bigSep_with_persistent (R := shared m K) (Φ := fun c => iprop(mine c ∗ rest m c)) fun c _ => start_of m K c)
  isplitr
  · unfold shared invs
    isplitr; · iexact Hinv
    iexact Hr
  rw [bigSep_sep']
  isplitl [Hm] <;> iassumption

/-! ## The run -/

/-- What a device holds at the end. -/
abbrev Tₙ (c : Dev nD) : sProp 𝕄 := iprop(StableHlo.held (c : Thread nD τ) bufs (V₂ m c) ∗ semVal (bar c) 0)

/-- The reshape leaves the input, -/
theorem V₂_arg (c : Dev nD) : V₂ m c (Proc.devRef .tc main_arg0) = xin m c := by
  rw [← V₁_arg]
  show StableHlo.after [StableHlo.reshape main_v1 main_v2 rfl shapeCasts_S12x128_S1536x1] (V₁ m c) (Proc.devRef .tc main_arg0) = _
  rw [StableHlo.after_cons, StableHlo.after_nil, StableHlo.reshape_result_ne main_v1 main_v2 _ _ _ _ _ (show main_arg0 ≠ main_v2 from by decide)]
/-- and puts the kernel's result in the final array. -/
theorem V₂_out (c : Dev nD) : V₂ m c (Proc.devRef .tc main_v2) = shapeCast S1536x1 (res m c) shapeCasts_S12x128_S1536x1 := by
  rw [← V₁_res]
  rfl

/-- The only semaphore not scoped to the kernel is the barrier. -/
theorem unscoped_eq : ∀ s : SemLoc sig, s.isScoped .tc = false → s = .reg barS := by decide

set_option backward.isDefEq.respectTransparency.types false in
/-- From any memory with every counter at zero, every weakly fair execution ends with each device's input unchanged, its
    result the row maxima of its own and its partner's input, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = shapeCast S1536x1 (res m c) shapeCasts_S12x128_S1536x1) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (reg m) rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => reg_pre m c, fun c => reg_post m c, fun c => ?_⟩
      show iprop(StableHlo.held (c : Thread nD τ) bufs (V₂ m c) ∗ T₁ c) ⊢ iprop(Tₙ m c ∗ ∃ W, owes (c : Thread nD τ) (0 : CellTallies nD τ sig Unit) W)
      unfold T₁ owing
      iintro ⟨Hh, Hb, HO⟩
      isplitr [HO]
      · isplitl [Hh] <;> iassumption
      · iexact HO)
    (hinit := init m ρ)
    (QY := fun c s => (s.mem ((Memref.whole main_arg0).view.loc (c : Thread nD τ)) = V₂ m c (Proc.devRef .tc main_arg0)
        ∧ s.mem ((Memref.whole main_v2).view.loc (c : Thread nD τ)) = V₂ m c (Proc.devRef .tc main_v2)) ∧ s.sem (bar c) = 0)
    (hfin := fun c s' => by
      dsimp only [Tₙ]; rw [held_all]
      iintro ⟨⟨⟨-, Hx, Hz⟩, Hb⟩, HSI⟩
      icombine HSI Hx gives %hx
      icombine HSI Hz gives %hz
      icombine HSI Hb gives %hb
      imodintro
      isplitr
      · ipureintro
        exact ⟨⟨Buf.eq_of_forall_mem_univ hx, Buf.eq_of_forall_mem_univ hz⟩, by simpa using hb⟩
      iexact HSI)
    (hQ := fun s h hs => ⟨fun c => by
        obtain ⟨⟨hx, hz⟩, -⟩ := h c
        rw [V₂_arg] at hx
        rw [V₂_out] at hz
        exact ⟨hx, hz⟩,
      sem_eq_zero hs fun c sm hsm => by
        obtain rfl := unscoped_eq sm hsm
        exact (h c).2⟩)

/-- The part of it that speaks of the argument and the counters. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c).1, h.2⟩) (run_main m ρ)

end Cert.RowMax

end
-- ==== Proof.Values.lean ====
/- The kernel's result at exact arithmetic: entry `r` is the larger of the greatest entries of row `r` of the device's own
   input and of its partner's. -/
module

public import proofs.«01_k».proof.Proof.Body
public import Idealize.ShloMosaic.PureOps.Ideal.Laws
public import Idealize.ShloMosaic.Lib.ValueLayout

@[expose] public section

noncomputable section

namespace Cert.RowMax

open Idealize.ShloMosaic Idealize.ShloMosaic.TcCoe Idealize.ShloMosaic.ValueIdx
open Cert.KernelIdeal Cert.KernelIdeal.Gen

/-- What a maximum is folded from. -/
def floor : EReal := FloatOps.ofBits (F := Ideal) .f32 0xFF800000#32

/-- The greatest of `n` values, from the floor. -/
def top {n : ℕ} (f : Fin n → EReal) : EReal := (Finset.univ : Finset (Fin n)).fold max floor f

/-- The greatest is at most a bound exactly when the floor and every value are. -/
theorem top_le {n : ℕ} (f : Fin n → EReal) (b : EReal) : top f ≤ b ↔ floor ≤ b ∧ ∀ k, f k ≤ b := by
  unfold top
  rw [Finset.fold_max_le]
  simp

/-- The greatest of `n` and of `n` further values is the greatest of the `2 n`. -/
theorem top_halves {n : ℕ} (f : Fin (2 * n) → EReal) :
    max (top fun k : Fin n => f ⟨k.val, by omega⟩) (top fun k : Fin n => f ⟨n + k.val, by omega⟩) = top f := by
  refine eq_of_forall_ge_iff fun b => ?_
  rw [max_le_iff, top_le, top_le, top_le]
  constructor
  · rintro ⟨⟨h0, h1⟩, -, h2⟩
    refine ⟨h0, fun k => ?_⟩
    by_cases hk : k.val < n
    · exact h1 ⟨k.val, hk⟩
    · have h := h2 ⟨k.val - n, by omega⟩
      have e : (⟨n + (k.val - n), by omega⟩ : Fin (2 * n)) = k := Fin.ext (by show n + (k.val - n) = k.val; omega)
      rw [e] at h
      exact h
  · rintro ⟨h0, h⟩
    exact ⟨⟨h0, fun k => h _⟩, h0, fun k => h _⟩

/-- The greatest entry of row `r` of an input. -/
def rowTop (x : S1536x768.Idx → EReal) (r : Fin 1536) : EReal := top fun k : Fin 768 => x (ix2 r k)

/-- One block's computation: place `(p, l)` of the two rows of 128 is the maximum of the block's row `128 p + l`. -/
theorem rowMax_apply (v : S256x768.Idx → Elt Ideal .f32) (p : Fin 2) (l : Fin 128) :
    rowMax (F := Ideal) v (ix2 p l) = top fun k : Fin 768 => v (ix2 (⟨128 * p.val + l.val, by omega⟩ : Fin 256) k) := by
  unfold rowMax k0_pay2
  refine (shapeCast_apply _ shapeCasts_S256_S2x128 (ix2 p l) (ix1 (⟨128 * p.val + l.val, by omega⟩ : Fin 256)) ?_).trans ?_
  · rw [Shape.rowMajor_val_one, Shape.rowMajor_val_two]
    show 128 * p.val + l.val = p.val * 128 + l.val
    rw [Nat.mul_comm]
  · refine (Ideal.multiReduction_maximumf_single (φ := .f32) v 0xFF800000#32 reduces_S256x768_S256 (.inl rfl) rfl _).trans ?_
    unfold top floor
    refine Finset.fold_congr fun k _ => ?_
    show v _ = v _
    congr 1
    funext a
    match a with
    | ⟨0, _⟩ => rfl
    | ⟨1, _⟩ => rfl

/-- All six blocks: place `(p, l)` of the twelve rows of 128 is the greatest entry of row `128 p + l` of the input. -/
theorem part_apply (x : S1536x768.Idx → Elt Ideal .f32) (p : Fin 12) (l : Fin 128) :
    part (F := Ideal) x (ix2 p l) = rowTop x ⟨128 * p.val + l.val, by omega⟩ := by
  show rowMax (F := Ideal) (block x ⟨p.val / 2, by omega⟩) (inBlock (ix2 p l)) = _
  have e : inBlock (ix2 p l) = ix2 (⟨p.val % 2, Nat.mod_lt _ (by decide)⟩ : Fin 2) l := by
    funext a
    match a with
    | ⟨0, _⟩ => rfl
    | ⟨1, _⟩ => rfl
  rw [e, rowMax_apply]
  unfold rowTop
  refine congrArg top (funext fun k => ?_)
  unfold block
  congr 1
  have h := rows_emb (R := 1536) (C := 768) (T := 256) (n := 6) (by decide) ⟨p.val / 2, by omega⟩
    (ix2 (⟨128 * (p.val % 2) + l.val, by omega⟩ : Fin 256) k)
  funext a
  match a with
  | ⟨0, _⟩ =>
    refine Fin.ext (h.1.trans ?_)
    show 256 * (p.val / 2) + (128 * (p.val % 2) + l.val) = 128 * p.val + l.val
    omega
  | ⟨1, _⟩ => exact Fin.ext h.2

/-- What device `c`'s result array holds. -/
theorem result_apply (m : (ℓ : Loc nD τ sig) → Buf (Elt Ideal) ℓ) (c : Dev nD) (r : Fin 1536) (u : Fin 1) :
    shapeCast S1536x1 (res (F := Ideal) m c) shapeCasts_S12x128_S1536x1 (ix2 r u)
      = max (rowTop (xin m c) r) (rowTop (xin m (pr c)) r) := by
  refine (shapeCast_apply _ shapeCasts_S12x128_S1536x1 (ix2 r u)
    (ix2 (⟨r.val / 128, by omega⟩ : Fin 12) (⟨r.val % 128, Nat.mod_lt _ (by decide)⟩ : Fin 128)) ?_).trans ?_
  · rw [Shape.rowMajor_val_two, Shape.rowMajor_val_two]
    show r.val / 128 * 128 + r.val % 128 = r.val * 1 + u.val
    omega
  · have e (x : S1536x768.Idx → Elt Ideal .f32) := part_apply x (⟨r.val / 128, by omega⟩ : Fin 12) (⟨r.val % 128, Nat.mod_lt _ (by decide)⟩ : Fin 128)
    have hr : (⟨128 * (r.val / 128) + r.val % 128, by omega⟩ : Fin 1536) = r := Fin.ext (Nat.div_add_mod _ _)
    rw [hr] at e
    rw [← e, ← e]
    unfold res k0_pay1
    rw [shapeCast_self]
    rfl

end Cert.RowMax

end
-- ==== Proof.Ref.lean ====
/- What the reference computes at exact arithmetic: entry `r` is the greatest entry of row `r` of the whole array. -/
module

public import proofs.«01_k».proof.Proof.Values
public import proofs.«01_k».proof.Proof.Gen.ReferenceIdeal.Run

@[expose] public section

noncomputable section

namespace Cert.RowMax

open Idealize.ShloMosaic Idealize.ShloMosaic.TcCoe Idealize.ShloMosaic.ValueIdx
open Cert.ReferenceIdeal Cert.ReferenceIdeal.Gen

/-- The greatest entry of each row, as the reference folds it. -/
def rowsOf {F : FTy → Type} [FloatOps F] (X : S3072x1536.Idx → Elt F .f32) : S3072.Idx → Elt F .f32 :=
  Host.reduce FloatOps.maximumf X (constant (F := F) S_ .f32 0xFF800000#32) reducesTo_S3072x1536_S3072_d1 h_S_

/-- The reference's result on the whole array. -/
def whole {F : FTy → Type} [FloatOps F] (X : S3072x1536.Idx → Elt F .f32) : S3072x1.Idx → Elt F .f32 :=
  broadcastInDim S3072x1 ![0] bcast_S3072_S3072x1_0 (rowsOf X)

/-- The columns are the axis that the reference reduces. -/
theorem reduces_rows : S3072x1536.Reduces [1] S3072 := by decide

/-- Its entry `r` is the greatest entry of row `r`. -/
theorem rowsOf_apply (X : S3072x1536.Idx → Elt Ideal .f32) (r : Fin 3072) :
    rowsOf (F := Ideal) X (ix1 r) = top fun k : Fin 1536 => X (ix2 r k) := by
  refine (Host.reduce_eq_fold_single _ X _ reducesTo_S3072x1536_S3072_d1 reduces_rows h_S_ (ix1 r)).trans ?_
  unfold top floor
  refine Finset.fold_congr fun k _ => ?_
  show X _ = X _
  congr 1
  funext a
  match a with
  | ⟨0, _⟩ => rfl
  | ⟨1, _⟩ => rfl

/-- So is entry `r` of the column the reference returns. -/
theorem whole_apply (X : S3072x1536.Idx → Elt Ideal .f32) (r : Fin 3072) (u : Fin 1) :
    whole (F := Ideal) X (ix2 r u) = top fun k : Fin 1536 => X (ix2 r k) := by
  rw [← rowsOf_apply]
  unfold whole broadcastInDim
  congr 1
  funext a
  match a with
  | ⟨0, _⟩ => exact dif_neg (show ¬ (3072 : ℕ) = 1 by decide)

end Cert.RowMax

end
-- ==== Proof.Equation.lean ====
/- The equation: the blocks of a row a device and its partner hold make up the row, so what the device computes is its
   block of what the reference computes. -/
module

public import proofs.«01_k».proof.Proof.Ref
public import Idealize.ShloMosaic.Lib.Layout

@[expose] public section

noncomputable section

namespace Cert.RowMax

open Idealize.ShloMosaic Idealize.ShloMosaic.TcCoe Idealize.ShloMosaic.ValueIdx
open Cert.KernelIdeal Cert.KernelIdeal.Gen

/-- Device `c`'s block of the whole input. -/
abbrev inPart (X : (⟨2, ![3072, 1536]⟩ : Shape).Idx → EReal) (c : Dev nD) : S1536x768.Idx → EReal :=
  Layout.blockN ⟨2, ![1536, 768]⟩ ⟨2, ![3072, 1536]⟩ (Layout.meshBlock [2, 2] ![[0], [1]] c) X

/-- The places a device's blocks start at. -/
theorem coord_row : ∀ c : Dev nD, ((Layout.meshBlock [2, 2] ![[0], [1]] c) 0).val = c.val / 2
    ∧ ((Layout.meshBlock [2, 2] ![[0], [1]] c) 1).val = c.val % 2 := by decide
/-- The block of the result a device holds: its row of the mesh. -/
theorem coord_out : ∀ c : Dev nD, ((Layout.meshBlock [2, 2] ![[0], []] c) 0).val = c.val / 2
    ∧ ((Layout.meshBlock [2, 2] ![[0], []] c) 1).val = 0 := by decide

/-- There are four devices. -/
theorem dev_lt (c : Dev nD) : c.val < 4 := c.isLt

/-- An entry of a device's block is the entry of the whole array at the block's place. -/
theorem inPart_apply (X : (⟨2, ![3072, 1536]⟩ : Shape).Idx → EReal) (c : Dev nD) (r : Fin 1536) (k : Fin 768) :
    inPart X c (ix2 r k) = X (ix2 (⟨1536 * (c.val / 2) + r.val, by have := dev_lt c; omega⟩ : Fin 3072) (⟨768 * (c.val % 2) + k.val, by omega⟩ : Fin 1536)) := by
  show X _ = X _
  congr 1
  funext a
  match a with
  | ⟨0, _⟩ =>
    refine Fin.ext ?_
    rw [Layout.TilesN.idx_val]
    show ((Layout.meshBlock [2, 2] ![[0], [1]] c) 0).val * 1536 + r.val = 1536 * (c.val / 2) + r.val
    rw [(coord_row c).1, Nat.mul_comm]
  | ⟨1, _⟩ =>
    refine Fin.ext ?_
    rw [Layout.TilesN.idx_val]
    show ((Layout.meshBlock [2, 2] ![[0], [1]] c) 1).val * 768 + k.val = 768 * (c.val % 2) + k.val
    rw [(coord_row c).2, Nat.mul_comm]

/-- The greatest entry of a row of a device's block. -/
theorem rowTop_part (X : (⟨2, ![3072, 1536]⟩ : Shape).Idx → EReal) (c : Dev nD) (r : Fin 1536) :
    rowTop (inPart X c) r = top fun k : Fin 768 =>
      X (ix2 (⟨1536 * (c.val / 2) + r.val, by have := dev_lt c; omega⟩ : Fin 3072) (⟨768 * (c.val % 2) + k.val, by omega⟩ : Fin 1536)) :=
  congrArg top (funext fun k => inPart_apply X c r k)

/-- The greatest entry of a whole row is the larger of those of its two halves. -/
theorem row_halves (X : (⟨2, ![3072, 1536]⟩ : Shape).Idx → EReal) (c : Dev nD) (r : Fin 1536) :
    max (rowTop (inPart X c) r) (rowTop (inPart X (pr c)) r)
      = top fun k : Fin 1536 => X (ix2 (⟨1536 * (c.val / 2) + r.val, by have := dev_lt c; omega⟩ : Fin 3072) k) := by
  have hc := dev_lt c
  have h1 : (pr c).val / 2 = c.val / 2 := by
    show (2 * (c.val / 2) + 1 - c.val % 2) / 2 = _
    omega
  have h2 : (pr c).val % 2 = 1 - c.val % 2 := by
    show (2 * (c.val / 2) + 1 - c.val % 2) % 2 = _
    omega
  rw [rowTop_part, rowTop_part]
  simp only [h1, h2]
  refine Eq.trans ?_ (top_halves (n := 768) fun k : Fin 1536 => X (ix2 (⟨1536 * (c.val / 2) + r.val, by omega⟩ : Fin 3072) k))
  rcases Nat.mod_two_eq_zero_or_one c.val with h | h
  · simp only [h, Nat.mul_zero, Nat.zero_add, Nat.mul_one, Nat.sub_zero]
  · rw [max_comm]
    simp only [h, Nat.mul_zero, Nat.zero_add, Nat.mul_one, Nat.sub_self]

/-- What device `c` computes from its block and its partner's is its block of the reference's result. -/
theorem result_eq (m : (ℓ : Loc nD τ sig) → Buf (Elt Ideal) ℓ) (X : (⟨2, ![3072, 1536]⟩ : Shape).Idx → EReal)
    (hm : ∀ c : Dev nD, xin m c = inPart X c) (c : Dev nD) :
    shapeCast S1536x1 (res (F := Ideal) m c) shapeCasts_S12x128_S1536x1
      = Layout.blockN ⟨2, ![1536, 1]⟩ ⟨2, ![3072, 1]⟩ (Layout.meshBlock [2, 2] ![[0], []] c) (whole (F := Ideal) X) := by
  funext i
  obtain ⟨r, u, rfl⟩ : ∃ (r : Fin 1536) (u : Fin 1), i = ix2 r u := ⟨i 0, i 1, eq_ix2 i⟩
  rw [result_apply, hm, hm, row_halves]
  refine (whole_apply X (⟨1536 * (c.val / 2) + r.val, by have := dev_lt c; omega⟩ : Fin 3072) u).symm.trans ?_
  show whole (F := Ideal) X _ = whole (F := Ideal) X _
  congr 1
  funext a
  match a with
  | ⟨0, _⟩ =>
    refine Fin.ext ?_
    rw [Layout.TilesN.idx_val]
    show 1536 * (c.val / 2) + r.val = ((Layout.meshBlock [2, 2] ![[0], []] c) 0).val * 1536 + r.val
    rw [(coord_out c).1, Nat.mul_comm]
  | ⟨1, _⟩ =>
    refine Fin.ext ?_
    rw [Layout.TilesN.idx_val]
    show u.val = ((Layout.meshBlock [2, 2] ![[0], []] c) 1).val * 1 + u.val
    rw [(coord_out c).2, Nat.zero_mul, Nat.zero_add]

end Cert.RowMax

end
-- ==== Proof.lean ====
/- The certificate: the frames of the kernel, of its idealization and of the reference, and the equation of the last two. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The two printings of the kernel have one body. -/
theorem same_body : Cert.Kernel.defs₀ (F := Bits) = Cert.KernelIdeal.defs₀ (F := Bits) := by
  unfold Cert.Kernel.defs₀ Cert.KernelIdeal.defs₀
  refine congrArg Defs.onTc (funext fun ℓ => funext fun p => ?_)
  match ℓ, p with
  | ⟨0, _⟩, (_, _) => rfl

/-- The kernel over the device's floats runs, and leaves its argument and every counter as they were. -/
theorem frame_kernel : Cert.quiescent_Kernel := fun m ρ _ => by
  unfold Cert.Kernel.defs
  rw [same_body]
  exact Cert.RowMax.run_frame (F := Bits) m ρ

/-- So does the kernel at exact arithmetic. -/
theorem frame_ideal : Cert.quiescent_KernelIdeal := fun m ρ _ => Cert.RowMax.run_frame (F := Ideal) m ρ

/-- The reference has no semaphore: it runs, and leaves its argument as it was. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Each device's result is its block of the reference's. -/
theorem values : Cert.algebraic_KernelIdeal_ReferenceIdeal := fun m ρ m' ρ' _ hm =>
  ⟨Cert.RowMax.whole (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (Cert.RowMax.result_eq m _ hm c), (h.1 c).1⟩)
      (Cert.RowMax.run_main (F := Ideal) m ρ),
    (θ_run Cert.ReferenceIdeal.defs _ _).mono (fun _ h => h 0) (Cert.ReferenceIdeal.Value.run (F := Ideal) m' ρ')⟩

/-- All the claims. -/
theorem claim : Cert.Claim := ⟨Cert.Kernel.Gen.facts, Cert.KernelIdeal.Gen.facts, Cert.ReferenceIdeal.Gen.facts,
  frame_kernel, frame_ideal, frame_reference, trivial, values⟩

end Cert.Proof

end
